-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x1024 : Shape := ⟨3, ![2, 1024, 1024]⟩
abbrev S4096x1024 : Shape := ⟨2, ![4096, 1024]⟩
abbrev S2048x4 : Shape := ⟨2, ![2048, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S4x2048 : Shape := ⟨2, ![4, 2048]⟩
abbrev S16x2048 : Shape := ⟨2, ![16, 2048]⟩
abbrev S1x2048 : Shape := ⟨2, ![1, 2048]⟩
abbrev S2x1024x2048 : Shape := ⟨3, ![2, 1024, 2048]⟩
abbrev S2x1024x16 : Shape := ⟨3, ![2, 1024, 16]⟩
abbrev S2x1024x128 : Shape := ⟨3, ![2, 1024, 128]⟩
abbrev S1x1024x1024 : Shape := ⟨3, ![1, 1024, 1024]⟩
abbrev S512x1024 : Shape := ⟨2, ![512, 1024]⟩
abbrev S4x512 : Shape := ⟨2, ![4, 512]⟩
abbrev S1x512 : Shape := ⟨2, ![1, 512]⟩
abbrev S96x512 : Shape := ⟨2, ![96, 512]⟩
abbrev S1x1024x512 : Shape := ⟨3, ![1, 1024, 512]⟩
abbrev S1x1024x2048 : Shape := ⟨3, ![1, 1024, 2048]⟩
abbrev S1x1024x16 : Shape := ⟨3, ![1, 1024, 16]⟩
abbrev S1x1024x128 : Shape := ⟨3, ![1, 1024, 128]⟩
abbrev S1024x96 : Shape := ⟨2, ![1024, 96]⟩
abbrev S1024x1024 : Shape := ⟨2, ![1024, 1024]⟩
abbrev S1024x512 : Shape := ⟨2, ![1024, 512]⟩
abbrev S3x512 : Shape := ⟨2, ![3, 512]⟩
abbrev S1021x512 : Shape := ⟨2, ![1021, 512]⟩
abbrev S2x512 : Shape := ⟨2, ![2, 512]⟩
abbrev S1022x512 : Shape := ⟨2, ![1022, 512]⟩
abbrev S1023x512 : Shape := ⟨2, ![1023, 512]⟩
abbrev S1024x64 : Shape := ⟨2, ![1024, 64]⟩
abbrev S1024x16 : Shape := ⟨2, ![1024, 16]⟩
abbrev S1024x112 : Shape := ⟨2, ![1024, 112]⟩
abbrev S1024x128 : Shape := ⟨2, ![1024, 128]⟩
abbrev S1x256x2048 : Shape := ⟨3, ![1, 256, 2048]⟩
abbrev S1x256x16 : Shape := ⟨3, ![1, 256, 16]⟩
abbrev S1x256x128 : Shape := ⟨3, ![1, 256, 128]⟩
abbrev S1x256x1024 : Shape := ⟨3, ![1, 256, 1024]⟩
abbrev S256x2048 : Shape := ⟨2, ![256, 2048]⟩
abbrev S128x2048 : Shape := ⟨2, ![128, 2048]⟩
abbrev S1x8x16 : Shape := ⟨3, ![1, 8, 16]⟩
abbrev S8x16 : Shape := ⟨2, ![8, 16]⟩
abbrev S16x8 : Shape := ⟨2, ![16, 8]⟩
abbrev S16x1 : Shape := ⟨2, ![16, 1]⟩
abbrev S16x128 : Shape := ⟨2, ![16, 128]⟩
abbrev S1x8x128 : Shape := ⟨3, ![1, 8, 128]⟩
abbrev S8x128 : Shape := ⟨2, ![8, 128]⟩
abbrev S16x1024 : Shape := ⟨2, ![16, 1024]⟩
abbrev S1x8x1024 : Shape := ⟨3, ![1, 8, 1024]⟩
abbrev S8x1024 : Shape := ⟨2, ![8, 1024]⟩
abbrev S1x1024 : Shape := ⟨2, ![1, 1024]⟩
abbrev S128x1024 : Shape := ⟨2, ![128, 1024]⟩
abbrev S256x1024 : Shape := ⟨2, ![256, 1024]⟩

abbrev nBuf : Space → Nat
  | .hbm => 21
  | .vmem => 43
  | .smem => 0
  | _ => 0

abbrev bufTy : (tb : Table) → Fin (tcTables nBuf tb) → BufTy
  | .hbm, ⟨0, _⟩ => ⟨S2x1024x1024, .f32⟩
  | .hbm, ⟨1, _⟩ => ⟨S4096x1024, .f32⟩
  | .hbm, ⟨2, _⟩ => ⟨S2048x4, .f32⟩
  | .hbm, ⟨3, _⟩ => ⟨S2048, .f32⟩
  | .hbm, ⟨4, _⟩ => ⟨S96x2048, .f32⟩
  | .hbm, ⟨5, _⟩ => ⟨S2048x64, .f32⟩
  | .hbm, ⟨6, _⟩ => ⟨S2048, .f32⟩
  | .hbm, ⟨7, _⟩ => ⟨S2048x16, .f32⟩
  | .hbm, ⟨8, _⟩ => ⟨S2048, .f32⟩
  | .hbm, ⟨9, _⟩ => ⟨S1024x2048, .f32⟩
  | .hbm, ⟨10, _⟩ => ⟨S4x2048, .f32⟩
  | .hbm, ⟨11, _⟩ => ⟨S16x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S2x1024x2048, .f32⟩
  | .hbm, ⟨16, _⟩ => ⟨S2x1024x2048, .bf16⟩
  | .hbm, ⟨17, _⟩ => ⟨S2x1024x2048, .bf16⟩
  | .hbm, ⟨18, _⟩ => ⟨S2x1024x16, .f32⟩
  | .hbm, ⟨19, _⟩ => ⟨S2x1024x128, .bf16⟩
  | .hbm, ⟨20, _⟩ => ⟨S2x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x512, .f32⟩
  | .local _ .vmem, ⟨7, _⟩ => ⟨S4x512, .f32⟩
  | .local _ .vmem, ⟨8, _⟩ => ⟨S1x512, .f32⟩
  | .local _ .vmem, ⟨9, _⟩ => ⟨S1x512, .f32⟩
  | .local _ .vmem, ⟨10, _⟩ => ⟨S96x512, .f32⟩
  | .local _ .vmem, ⟨11, _⟩ => ⟨S96x512, .f32⟩
  | .local _ .vmem, ⟨12, _⟩ => ⟨S2048x64, .f32⟩
  | .local _ .vmem, ⟨13, _⟩ => ⟨S1x2048, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1x1024x2048, .bf16⟩
  | .local _ .vmem, ⟨19, _⟩ => ⟨S1x1024x2048, .bf16⟩
  | .local _ .vmem, ⟨20, _⟩ => ⟨S1x1024x16, .f32⟩
  | .local _ .vmem, ⟨21, _⟩ => ⟨S1x1024x16, .f32⟩
  | .local _ .vmem, ⟨22, _⟩ => ⟨S1x1024x128, .bf16⟩
  | .local _ .vmem, ⟨23, _⟩ => ⟨S1x1024x128, .bf16⟩
  | .local _ .vmem, ⟨24, _⟩ => ⟨S1024x96, .f32⟩
  | .local _ .vmem, ⟨25, _⟩ => ⟨S1x256x2048, .bf16⟩
  | .local _ .vmem, ⟨26, _⟩ => ⟨S1x256x2048, .bf16⟩
  | .local _ .vmem, ⟨27, _⟩ => ⟨S1x256x2048, .f32⟩
  | .local _ .vmem, ⟨28, _⟩ => ⟨S1x256x2048, .f32⟩
  | .local _ .vmem, ⟨29, _⟩ => ⟨S1x256x2048, .bf16⟩
  | .local _ .vmem, ⟨30, _⟩ => ⟨S1x256x2048, .bf16⟩
  | .local _ .vmem, ⟨31, _⟩ => ⟨S1x256x16, .f32⟩
  | .local _ .vmem, ⟨32, _⟩ => ⟨S1x256x16, .f32⟩
  | .local _ .vmem, ⟨33, _⟩ => ⟨S1x256x128, .bf16⟩
  | .local _ .vmem, ⟨34, _⟩ => ⟨S1x256x128, .bf16⟩
  | .local _ .vmem, ⟨35, _⟩ => ⟨S16x2048, .f32⟩
  | .local _ .vmem, ⟨36, _⟩ => ⟨S1x2048, .f32⟩
  | .local _ .vmem, ⟨37, _⟩ => ⟨S1024x2048, .f32⟩
  | .local _ .vmem, ⟨38, _⟩ => ⟨S1x256x1024, .f32⟩
  | .local _ .vmem, ⟨39, _⟩ => ⟨S1x256x1024, .f32⟩
  | .local _ .vmem, ⟨40, _⟩ => ⟨S16x2048, .f32⟩
  | .local _ .vmem, ⟨41, _⟩ => ⟨S256x2048, .f32⟩
  | .local _ .vmem, ⟨42, _⟩ => ⟨S128x2048, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg8_1 : Ref sig .tc := ⟨.vmem, 39, rfl⟩
abbrev cc1_scratch0 : Ref sig .tc := ⟨.vmem, 40, rfl⟩
abbrev cc1_scratch1 : Ref sig .tc := ⟨.vmem, 41, rfl⟩
abbrev cc1_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem8_1 : DmaSem sig := 38

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v62 : BitVec 1 := Scalar.cmpi .eq arg1 c3_i32
  let v63 : BitVec 32 := Scalar.extui v62
  let c0_i32_29 : BitVec 32 := 0#32
  let v64 : BitVec 1 := Scalar.cmpi .ne v63 c0_i32_29
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S96x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨2, ![2, 4], ![false, false]⟩

@[reducible] def k1_t1_loop : Scf.Loop 32 :=
  let c0_i32_3 : BitVec 32 := 0#32
  let c32_i32 : BitVec 32 := 32#32
  let v10 : BitVec 32 := Scalar.addi c0_i32_3 c32_i32
  let c1_i32 : BitVec 32 := 1#32
  ⟨c0_i32_3, v10, c1_i32⟩
def k1_mult1 (k1_t1 : Fin k1_t1_loop.trips) : BitVec 32 :=
  let c0_i32_3 : BitVec 32 := 0#32
  let c1_i32 : BitVec 32 := 1#32
  let arg14 : BitVec 32 := Scf.iv c0_i32_3 c1_i32 k1_t1
  let c8_i32 : BitVec 32 := 8#32
  let v30 : BitVec 32 := Scalar.muli arg14 c8_i32
  v30
def k1_off1 (k1_t1 : Fin k1_t1_loop.trips) : Fin 3 → Nat :=
  let c0_21 : Index := 0#32
  let c0_i32_3 : BitVec 32 := 0#32
  let c1_i32 : BitVec 32 := 1#32
  let arg14 : BitVec 32 := Scf.iv c0_i32_3 c1_i32 k1_t1
  let c8_i32 : BitVec 32 := 8#32
  let v30 : BitVec 32 := Scalar.muli arg14 c8_i32
  let v31 : BitVec 32 := v30
  let v32 : Index := Scalar.indexCast v31
  let c0_22 : Index := 0#32
  ![0, v32.toNat, 0]
def k1_off2 (k1_t1 : Fin k1_t1_loop.trips) : Fin 3 → Nat :=
  let c0_23 : Index := 0#32
  let c0_i32_3 : BitVec 32 := 0#32
  let c1_i32 : BitVec 32 := 1#32
  let arg14 : BitVec 32 := Scf.iv c0_i32_3 c1_i32 k1_t1
  let c8_i32 : BitVec 32 := 8#32
  let v30 : BitVec 32 := Scalar.muli arg14 c8_i32
  let v31 : BitVec 32 := v30
  let v60 : Index := Scalar.indexCast v31
  let c0_24 : Index := 0#32
  ![0, v60.toNat, 0]
def k1_off3 (k1_t1 : Fin k1_t1_loop.trips) : Fin 3 → Nat :=
  let c0_27 : Index := 0#32
  let c0_i32_3 : BitVec 32 := 0#32
  let c1_i32 : BitVec 32 := 1#32
  let arg14 : BitVec 32 := Scf.iv c0_i32_3 c1_i32 k1_t1
  let c8_i32 : BitVec 32 := 8#32
  let v30 : BitVec 32 := Scalar.muli arg14 c8_i32
  let v31 : BitVec 32 := v30
  let v64 : Index := Scalar.indexCast v31
  let c0_28 : Index := 0#32
  ![0, v64.toNat, 0]
def k1_off4 (k1_t1 : Fin k1_t1_loop.trips) : Fin 2 → Nat :=
  let c0_i32_3 : BitVec 32 := 0#32
  let c1_i32 : BitVec 32 := 1#32
  let arg14 : BitVec 32 := Scf.iv c0_i32_3 c1_i32 k1_t1
  let c8_i32 : BitVec 32 := 8#32
  let v30 : BitVec 32 := Scalar.muli arg14 c8_i32
  let v31 : BitVec 32 := v30
  let v187 : Index := Scalar.indexCast v31
  let c0_43 : Index := 0#32
  ![v187.toNat, 0]
def k1_off5 (k1_t1 : Fin k1_t1_loop.trips) : Fin 3 → Nat :=
  let c0_47 : Index := 0#32
  let c0_i32_3 : BitVec 32 := 0#32
  let c1_i32 : BitVec 32 := 1#32
  let arg14 : BitVec 32 := Scf.iv c0_i32_3 c1_i32 k1_t1
  let c8_i32 : BitVec 32 := 8#32
  let v30 : BitVec 32 := Scalar.muli arg14 c8_i32
  let v31 : BitVec 32 := v30
  let v195 : Index := Scalar.indexCast v31
  let c1024_48 : Index := 1024#32
  ![0, v195.toNat, 1024]
def k1_off6 (k1_t1 : Fin k1_t1_loop.trips) : Fin 2 → Nat :=
  let c0_i32_3 : BitVec 32 := 0#32
  let c1_i32 : BitVec 32 := 1#32
  let arg14 : BitVec 32 := Scf.iv c0_i32_3 c1_i32 k1_t1
  let c8_i32 : BitVec 32 := 8#32
  let v30 : BitVec 32 := Scalar.muli arg14 c8_i32
  let v31 : BitVec 32 := v30
  let v318 : Index := Scalar.indexCast v31
  let c1024_70 : Index := 1024#32
  ![v318.toNat, 1024]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S16x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x1024x1024 : Shape := ⟨3, ![2, 1024, 1024]⟩
abbrev S4096x1024 : Shape := ⟨2, ![4096, 1024]⟩
abbrev S2048x4 : Shape := ⟨2, ![2048, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S2x1024x4096 : Shape := ⟨3, ![2, 1024, 4096]⟩
abbrev S2x1024x2048 : Shape := ⟨3, ![2, 1024, 2048]⟩
abbrev S_ : Shape := ⟨0, ![]⟩
abbrev S2x1027x2048 : Shape := ⟨3, ![2, 1027, 2048]⟩
abbrev S2048x1 : Shape := ⟨2, ![2048, 1]⟩
abbrev S1x1x2048 : Shape := ⟨3, ![1, 1, 2048]⟩
abbrev S2x1024x96 : Shape := ⟨3, ![2, 1024, 96]⟩
abbrev S2x1024x64 : Shape := ⟨3, ![2, 1024, 64]⟩
abbrev S2x1024x16 : Shape := ⟨3, ![2, 1024, 16]⟩
abbrev S2x1024x2048x1 : Shape := ⟨4, ![2, 1024, 2048, 1]⟩
abbrev S1x1x2048x16 : Shape := ⟨4, ![1, 1, 2048, 16]⟩
abbrev S2x1024x2048x16 : Shape := ⟨4, ![2, 1024, 2048, 16]⟩
abbrev S2x1024x1x16 : Shape := ⟨4, ![2, 1024, 1, 16]⟩
abbrev S2x2048x16 : Shape := ⟨3, ![2, 2048, 16]⟩
abbrev S1024x2x2048x16 : Shape := ⟨4, ![1024, 2, 2048, 16]⟩
abbrev S1024x2x16 : Shape := ⟨3, ![1024, 2, 16]⟩
abbrev S1024x2x2048 : Shape := ⟨3, ![1024, 2, 2048]⟩
abbrev S1x2x2048x16 : Shape := ⟨4, ![1, 2, 2048, 16]⟩
abbrev S1x2x16 : Shape := ⟨3, ![1, 2, 16]⟩
abbrev S2x16 : Shape := ⟨2, ![2, 16]⟩
abbrev S2x2048 : Shape := ⟨2, ![2, 2048]⟩
abbrev S1x2x2048 : Shape := ⟨3, ![1, 2, 2048]⟩

abbrev nBuf : Space → Nat
  | .hbm => 151
  | .vmem => 0
  | .smem => 0
  | _ => 0

abbrev hbmTy0_0 (i : Nat) : BufTy := match i % 128 with
  | 0 => ⟨S2x1024x1024, .f32⟩
  | 1 => ⟨S4096x1024, .f32⟩
  | 2 => ⟨S2048x4, .f32⟩
  | 3 => ⟨S2048, .f32⟩
  | 4 => ⟨S96x2048, .f32⟩
  | 5 => ⟨S2048x64, .f32⟩
  | 6 => ⟨S2048, .f32⟩
  | 7 => ⟨S2048x16, .f32⟩
  | 8 => ⟨S2048, .f32⟩
  | 9 => ⟨S1024x2048, .f32⟩
  | 10 => ⟨S2x1024x4096, .f32⟩
  | 11 => ⟨S2x1024x2048, .f32⟩
  | 12 => ⟨S2x1024x2048, .f32⟩
  | 13 => ⟨S_, .i32⟩
  | 14 => ⟨S_, .f32⟩
  | 15 => ⟨S2x1027x2048, .f32⟩
  | 16 => ⟨S2048x1, .f32⟩
  | 17 => ⟨S2048, .f32⟩
  | 18 => ⟨S2x1024x2048, .f32⟩
  | 19 => ⟨S1x1x2048, .f32⟩
  | 20 => ⟨S2x1024x2048, .f32⟩
  | 21 => ⟨S2x1024x2048, .f32⟩
  | 22 => ⟨S_, .f32⟩
  | 23 => ⟨S2x1024x2048, .f32⟩
  | 24 => ⟨S2x1024x2048, .f32⟩
  | 25 => ⟨S2048x1, .f32⟩
  | 26 => ⟨S2048, .f32⟩
  | 27 => ⟨S2x1024x2048, .f32⟩
  | 28 => ⟨S1x1x2048, .f32⟩
  | 29 => ⟨S2x1024x2048, .f32⟩
  | 30 => ⟨S2x1024x2048, .f32⟩
  | 31 => ⟨S2x1024x2048, .f32⟩
  | 32 => ⟨S2048x1, .f32⟩
  | 33 => ⟨S2048, .f32⟩
  | 34 => ⟨S2x1024x2048, .f32⟩
  | 35 => ⟨S1x1x2048, .f32⟩
  | 36 => ⟨S2x1024x2048, .f32⟩
  | 37 => ⟨S2x1024x2048, .f32⟩
  | 38 => ⟨S2x1024x2048, .f32⟩
  | 39 => ⟨S2048x1, .f32⟩
  | 40 => ⟨S2048, .f32⟩
  | 41 => ⟨S2x1024x2048, .f32⟩
  | 42 => ⟨S1x1x2048, .f32⟩
  | 43 => ⟨S2x1024x2048, .f32⟩
  | 44 => ⟨S2x1024x2048, .f32⟩
  | 45 => ⟨S2x1024x2048, .f32⟩
  | 46 => ⟨S1x1x2048, .f32⟩
  | 47 => ⟨S2x1024x2048, .f32⟩
  | 48 => ⟨S2x1024x2048, .f32⟩
  | 49 => ⟨S2x1024x2048, .f32⟩
  | 50 => ⟨S2x1024x2048, .f32⟩
  | 51 => ⟨S_, .f32⟩
  | 52 => ⟨S2x1024x2048, .f32⟩
  | 53 => ⟨S2x1024x2048, .f32⟩
  | 54 => ⟨S_, .f32⟩
  | 55 => ⟨S2x1024x2048, .f32⟩
  | 56 => ⟨S2x1024x2048, .f32⟩
  | 57 => ⟨S2x1024x2048, .f32⟩
  | 58 => ⟨S2x1024x96, .f32⟩
  | 59 => ⟨S2x1024x64, .f32⟩
  | 60 => ⟨S2x1024x16, .f32⟩
  | 61 => ⟨S2x1024x16, .f32⟩
  | 62 => ⟨S2x1024x2048, .f32⟩
  | 63 => ⟨S1x1x2048, .f32⟩
  | 64 => ⟨S2x1024x2048, .f32⟩
  | 65 => ⟨S2x1024x2048, .f32⟩
  | 66 => ⟨S_, .f32⟩
  | 67 => ⟨S2x1024x2048, .f32⟩
  | 68 => ⟨S2x1024x2048, .f32⟩
  | 69 => ⟨S2x1024x2048, .f32⟩
  | 70 => ⟨S2x1024x2048, .f32⟩
  | 71 => ⟨S2x1024x2048, .i1⟩
  | 72 => ⟨S2x1024x2048, .f32⟩
  | 73 => ⟨S2x1024x2048, .f32⟩
  | 74 => ⟨S2x1024x2048, .f32⟩
  | 75 => ⟨S2x1024x2048, .f32⟩
  | 76 => ⟨S2x1024x2048, .f32⟩
  | 77 => ⟨S2x1024x2048, .f32⟩
  | 78 => ⟨S2x1024x2048, .f32⟩
  | 79 => ⟨S2x1024x2048, .f32⟩
  | 80 => ⟨S2048x16, .f32⟩
  | 81 => ⟨S2048x16, .f32⟩
  | 82 => ⟨S2x1024x2048x1, .f32⟩
  | 83 => ⟨S1x1x2048x16, .f32⟩
  | 84 => ⟨S2x1024x2048x16, .f32⟩
  | 85 => ⟨S2x1024x2048x16, .f32⟩
  | 86 => ⟨S2x1024x2048x16, .f32⟩
  | 87 => ⟨S2x1024x2048x16, .f32⟩
  | 88 => ⟨S2x1024x2048x1, .f32⟩
  | 89 => ⟨S2x1024x1x16, .f32⟩
  | 90 => ⟨S2x1024x2048x16, .f32⟩
  | 91 => ⟨S2x1024x2048x16, .f32⟩
  | 92 => ⟨S2x1024x2048x16, .f32⟩
  | 93 => ⟨S2x1024x2048x1, .f32⟩
  | 94 => ⟨S2x1024x2048x16, .f32⟩
  | 95 => ⟨S2x1024x2048x16, .f32⟩
  | 96 => ⟨S_, .f32⟩
  | 97 => ⟨S2x2048x16, .f32⟩
  | 98 => ⟨S1024x2x2048x16, .f32⟩
  | 99 => ⟨S1024x2x2048x16, .f32⟩
  | 100 => ⟨S1024x2x16, .f32⟩
  | 101 => ⟨S_, .f32⟩
  | 102 => ⟨S1024x2x2048, .f32⟩
  | 103 => ⟨S_, .i32⟩
  | 104 => ⟨S1024x2x2048x16, .f32⟩
  | 105 => ⟨S1024x2x2048x16, .f32⟩
  | 106 => ⟨S1024x2x16, .f32⟩
  | 107 => ⟨S_, .i32⟩
  | 108 => ⟨S2x2048x16, .f32⟩
  | 109 => ⟨S1024x2x2048, .f32⟩
  | 110 => ⟨S_, .i32⟩
  | 111 => ⟨S_, .i1⟩
  | 112 => ⟨S_, .i32⟩
  | 113 => ⟨S_, .i32⟩
  | 114 => ⟨S_, .i32⟩
  | 115 => ⟨S1x2x2048x16, .f32⟩
  | 116 => ⟨S2x2048x16, .f32⟩
  | 117 => ⟨S_, .i32⟩
  | 118 => ⟨S_, .i32⟩
  | 119 => ⟨S_, .i32⟩
  | 120 => ⟨S1x2x2048x16, .f32⟩
  | 121 => ⟨S2x2048x16, .f32⟩
  | 122 => ⟨S_, .i32⟩
  | 123 => ⟨S_, .i32⟩
  | 124 => ⟨S1x2x16, .f32⟩
  | 125 => ⟨S2x16, .f32⟩
  | 126 => ⟨S2x2048x16, .f32⟩
  | 127 => ⟨S2x2048x16, .f32⟩
  | _ => ⟨S2x1024x1024, .f32⟩

abbrev hbmTy0_1 (i : Nat) : BufTy := match i % 128 with
  | 0 => ⟨S2x2048, .f32⟩
  | 1 => ⟨S1x2x2048, .f32⟩
  | 2 => ⟨S_, .i32⟩
  | 3 => ⟨S_, .i32⟩
  | 4 => ⟨S1024x2x2048, .f32⟩
  | 5 => ⟨S_, .i32⟩
  | 6 => ⟨S_, .i32⟩
  | 7 => ⟨S2x1024x2048, .f32⟩
  | 8 => ⟨S1x1x2048, .f32⟩
  | 9 => ⟨S2x1024x2048, .f32⟩
  | 10 => ⟨S2x1024x2048, .f32⟩
  | 11 => ⟨S2x1024x2048, .f32⟩
  | 12 => ⟨S2x1024x2048, .f32⟩
  | 13 => ⟨S2x1024x2048, .f32⟩
  | 14 => ⟨S_, .f32⟩
  | 15 => ⟨S2x1024x2048, .f32⟩
  | 16 => ⟨S2x1024x2048, .f32⟩
  | 17 => ⟨S_, .f32⟩
  | 18 => ⟨S2x1024x2048, .f32⟩
  | 19 => ⟨S2x1024x2048, .f32⟩
  | 20 => ⟨S2x1024x2048, .f32⟩
  | 21 => ⟨S2x1024x2048, .f32⟩
  | 22 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_1 : Ref sig .tc := ⟨.hbm, 101, rfl⟩
abbrev main_v66 : Ref sig .tc := ⟨.hbm, 102, rfl⟩
abbrev main_c_2 : Ref sig .tc := ⟨.hbm, 103, rfl⟩
abbrev main_v67_0 : Ref sig .tc := ⟨.hbm, 104, rfl⟩
abbrev main_v67_1 : Ref sig .tc := ⟨.hbm, 105, rfl⟩
abbrev main_v67_2 : Ref sig .tc := ⟨.hbm, 106, rfl⟩
abbrev main_v67_3 : Ref sig .tc := ⟨.hbm, 107, rfl⟩
abbrev main_v67_4 : Ref sig .tc := ⟨.hbm, 108, rfl⟩
abbrev main_v67_5 : Ref sig .tc := ⟨.hbm, 109, rfl⟩
abbrev main_while0c_c_8 : Ref sig .tc := ⟨.hbm, 110, rfl⟩
abbrev main_while0c_v76 : Ref sig .tc := ⟨.hbm, 111, rfl⟩
abbrev main_while0b_call3_c : Ref sig .tc := ⟨.hbm, 112, rfl⟩
abbrev main_while0b_call3_c_0 : Ref sig .tc := ⟨.hbm, 113, rfl⟩
abbrev main_while0b_call3_c_1 : Ref sig .tc := ⟨.hbm, 114, rfl⟩
abbrev main_while0b_call3_v0 : Ref sig .tc := ⟨.hbm, 115, rfl⟩
abbrev main_while0b_v76 : Ref sig .tc := ⟨.hbm, 116, rfl⟩
abbrev main_while0b_call4_c : Ref sig .tc := ⟨.hbm, 117, rfl⟩
abbrev main_while0b_call4_c_0 : Ref sig .tc := ⟨.hbm, 118, rfl⟩
abbrev main_while0b_call4_c_1 : Ref sig .tc := ⟨.hbm, 119, rfl⟩
abbrev main_while0b_call4_v0 : Ref sig .tc := ⟨.hbm, 120, rfl⟩
abbrev main_while0b_v77 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_v0 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_call6_v0 : Ref sig .tc := ⟨.hbm, 129, rfl⟩
abbrev main_while0b_call6_c : Ref sig .tc := ⟨.hbm, 130, rfl⟩
abbrev main_while0b_call6_c_0 : Ref sig .tc := ⟨.hbm, 131, rfl⟩
abbrev main_while0b_v82 : Ref sig .tc := ⟨.hbm, 132, rfl⟩
abbrev main_while0b_c_8 : Ref sig .tc := ⟨.hbm, 133, rfl⟩
abbrev main_while0b_v83 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩

abbrev nD : Nat := 1
abbrev τ : Topo := Topo.v7x

variable {F : FTy → Type} [FloatOps F]

abbrev main_while0_count : Scf.Loop 32 := ⟨0#32, 1024#32, 1#32⟩
-- ==== Proof.KernelIdeal.Scan.lean ====
/-
  What one trip of the scan's loop computes, as functions of the staged blocks alone: the eight states a trip runs
  through on either half of the columns (`half0`, `half1`), the stack of them it multiplies the output rows with, the
  state it leaves (`hStep`), the eight output rows it writes (`yRows0`, `yRows1`), and over the trips the state
  (`hSeq`), the writes into the state (`hPieces`) and into the output rows (`yPieces`).
-/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.KernelIdeal.Run

open Idealize.ShloMosaic Idealize.ShloMosaic.TcCoe Idealize.ShloMosaic.Tactic
open Cert.KernelIdeal.Gen

variable {F : FTy → Type} [FloatOps F] [Named F]

/-- What a load through the rectangle `R` reads of a block held at `x`. -/
abbrev rd {s : Shape} {e : EltTy} (x : Vec F s e) (R : Rect s) : Vec F R.shape e := fun y => x (R.toLoadRect.idx y)

section Half0

variable (v9 : FVec F S16x2048 .f32) (v33 : Vec F S1x8x16 .f32) (v63 : Vec F S16x1024 .f32)
  (v65 : Vec F S1x8x1024 .bf16) (v69 : Vec F S1x8x1024 .f32)

/-- The state after four rows, on the first half of the columns. -/
def mid0 : FVec F S16x1024 .f32 :=
  k1_pay22 (k1_pay2 v33) (k1_pay3 v33) (k1_pay4 v33) (k1_pay5 v33) v63 (k1_pay11 v65) (k1_pay12 v65 v69) (k1_pay13 v9)
    (k1_pay14 v65 v69) (k1_pay15 v9 v65)

/-- The state after seven rows, on the first half of the columns. -/
def late0 : FVec F S16x1024 .f32 :=
  k1_pay29 (k1_pay6 v33) (k1_pay7 v33) (k1_pay8 v33) (k1_pay11 v65) (k1_pay12 v65 v69) (k1_pay13 v9)
    (mid0 v9 v33 v63 v65 v69)

/-- The eight states of the first half, rounded, as the writes into the stack (the last first). -/
def stack0 : List (View.Piece (Elt F) S128x2048 .bf16) :=
  [⟨Rect.unit (s := S128x2048) ![112, 0] S16x1024.size inb_S128x2048_S16x1024_112_0,
      k1_pay35 (late0 v9 v33 v63 v65 v69) (k1_pay31 (k1_pay12 v65 v69)) (k1_pay32 (k1_pay11 v65) (k1_pay13 v9)) (k1_pay33 (k1_pay9 v33))⟩,
   ⟨Rect.unit (s := S128x2048) ![96, 0] S16x1024.size inb_S128x2048_S16x1024_96_0,
      k1_pay30 (k1_pay6 v33) (k1_pay7 v33) (k1_pay8 v33) (k1_pay11 v65) (k1_pay12 v65 v69) (k1_pay13 v9) (mid0 v9 v33 v63 v65 v69)⟩,
   ⟨Rect.unit (s := S128x2048) ![80, 0] S16x1024.size inb_S128x2048_S16x1024_80_0,
      k1_pay28 (k1_pay6 v33) (k1_pay7 v33) (k1_pay11 v65) (k1_pay12 v65 v69) (k1_pay13 v9) (mid0 v9 v33 v63 v65 v69)⟩,
   ⟨Rect.unit (s := S128x2048) ![64, 0] S16x1024.size inb_S128x2048_S16x1024_64_0,
      k1_pay26 (k1_pay6 v33) (k1_pay11 v65) (k1_pay12 v65 v69) (k1_pay13 v9) (mid0 v9 v33 v63 v65 v69)⟩,
   ⟨Rect.unit (s := S128x2048) ![48, 0] S16x1024.size inb_S128x2048_S16x1024_48_0,
      k1_pay24 (k1_pay23 (k1_pay2 v33) (k1_pay3 v33) (k1_pay4 v33) (k1_pay5 v33) v63 (k1_pay11 v65) (k1_pay12 v65 v69)
        (k1_pay13 v9) (k1_pay14 v65 v69) (k1_pay15 v9 v65))⟩,
   ⟨Rect.unit (s := S128x2048) ![32, 0] S16x1024.size inb_S128x2048_S16x1024_32_0,
      k1_pay21 (k1_pay2 v33) (k1_pay3 v33) (k1_pay4 v33) v63 (k1_pay11 v65) (k1_pay12 v65 v69) (k1_pay13 v9)
        (k1_pay14 v65 v69) (k1_pay15 v9 v65)⟩,
   ⟨Rect.unit (s := S128x2048) ![16, 0] S16x1024.size inb_S128x2048_S16x1024_16_0,
      k1_pay19 (k1_pay2 v33) (k1_pay3 v33) v63 (k1_pay11 v65) (k1_pay12 v65 v69) (k1_pay13 v9) (k1_pay14 v65 v69) (k1_pay15 v9 v65)⟩,
   ⟨Rect.unit (s := S128x2048) ![0, 0] S16x1024.size inb_S128x2048_S16x1024_0_0,
      k1_pay17 (k1_pay2 v33) v63 (k1_pay14 v65 v69) (k1_pay15 v9 v65)⟩]

/-- The state after the eight rows, on the first half of the columns. -/
def last0 : FVec F S16x1024 .f32 :=
  k1_pay37 (late0 v9 v33 v63 v65 v69) (k1_pay31 (k1_pay12 v65 v69)) (k1_pay32 (k1_pay11 v65) (k1_pay13 v9)) (k1_pay33 (k1_pay9 v33))

end Half0

section Half1

variable (v9 : FVec F S16x2048 .f32) (v33 : Vec F S1x8x16 .f32) (v194 : Vec F S16x1024 .f32)
  (v196 : Vec F S1x8x1024 .bf16) (v200 : Vec F S1x8x1024 .f32)

/-- The state after one row, on the second half of the columns. -/
def fst1 : FVec F S16x1024 .f32 := k1_pay41 v9 (k1_pay2 v33) v194 v196 v200

/-- The decayed state the fifth row adds to, on the second half of the columns. -/
def mid1 : FVec F S16x1024 .f32 :=
  k1_pay50 (k1_pay3 v33) (k1_pay4 v33) (k1_pay5 v33) (k1_pay38 v196) (k1_pay39 v196 v200) (k1_pay40 v9) (fst1 v9 v33 v194 v196 v200)

/-- The eight states of the second half, rounded, as the writes into the stack (the last first). -/
def stack1 : List (View.Piece (Elt F) S128x2048 .bf16) :=
  [⟨Rect.unit (s := S128x2048) ![112, 1024] S16x1024.size inb_S128x2048_S16x1024_112_1024,
      k1_pay59 (k1_pay7 v33) (k1_pay8 v33) (k1_pay9 v33) (k1_pay38 v196) (k1_pay39 v196 v200) (k1_pay40 v9)
        (k1_pay49 (k1_pay6 v33)) (mid1 v9 v33 v194 v196 v200) (k1_pay51 (k1_pay39 v196 v200))⟩,
   ⟨Rect.unit (s := S128x2048) ![96, 1024] S16x1024.size inb_S128x2048_S16x1024_96_1024,
      k1_pay57 (k1_pay7 v33) (k1_pay8 v33) (k1_pay38 v196) (k1_pay39 v196 v200) (k1_pay40 v9)
        (k1_pay49 (k1_pay6 v33)) (mid1 v9 v33 v194 v196 v200) (k1_pay51 (k1_pay39 v196 v200))⟩,
   ⟨Rect.unit (s := S128x2048) ![80, 1024] S16x1024.size inb_S128x2048_S16x1024_80_1024,
      k1_pay55 (k1_pay7 v33) (k1_pay38 v196) (k1_pay39 v196 v200) (k1_pay40 v9)
        (k1_pay49 (k1_pay6 v33)) (mid1 v9 v33 v194 v196 v200) (k1_pay51 (k1_pay39 v196 v200))⟩,
   ⟨Rect.unit (s := S128x2048) ![64, 1024] S16x1024.size inb_S128x2048_S16x1024_64_1024,
      k1_pay53 (k1_pay49 (k1_pay6 v33)) (mid1 v9 v33 v194 v196 v200) (k1_pay51 (k1_pay39 v196 v200))⟩,
   ⟨Rect.unit (s := S128x2048) ![48, 1024] S16x1024.size inb_S128x2048_S16x1024_48_1024,
      k1_pay48 (k1_pay3 v33) (k1_pay4 v33) (k1_pay5 v33) (k1_pay38 v196) (k1_pay39 v196 v200) (k1_pay40 v9) (fst1 v9 v33 v194 v196 v200)⟩,
   ⟨Rect.unit (s := S128x2048) ![32, 1024] S16x1024.size inb_S128x2048_S16x1024_32_1024,
      k1_pay46 (k1_pay3 v33) (k1_pay4 v33) (k1_pay38 v196) (k1_pay39 v196 v200) (k1_pay40 v9) (fst1 v9 v33 v194 v196 v200)⟩,
   ⟨Rect.unit (s := S128x2048) ![16, 1024] S16x1024.size inb_S128x2048_S16x1024_16_1024,
      k1_pay44 (k1_pay3 v33) (k1_pay38 v196) (k1_pay39 v196 v200) (k1_pay40 v9) (fst1 v9 v33 v194 v196 v200)⟩,
   ⟨Rect.unit (s := S128x2048) ![0, 1024] S16x1024.size inb_S128x2048_S16x1024_0_1024,
      k1_pay42 v9 (k1_pay2 v33) v194 v196 v200⟩]

/-- The state after the eight rows, on the second half of the columns. -/
def last1 : FVec F S16x1024 .f32 :=
  k1_pay63 (k1_pay58 (k1_pay7 v33) (k1_pay8 v33) (k1_pay9 v33) (k1_pay38 v196) (k1_pay39 v196 v200) (k1_pay40 v9)
    (k1_pay49 (k1_pay6 v33)) (mid1 v9 v33 v194 v196 v200) (k1_pay51 (k1_pay39 v196 v200)))

end Half1

section Trip

variable (v3 : Vec F S16x2048 .f32) (x2 : Vec F S1x256x2048 .bf16) (x3 : Vec F S1x256x2048 .f32)
  (x5 : Vec F S1x256x16 .f32) (x6 : Vec F S1x256x128 .bf16)

/-- The rows of `B` a trip reads. -/
abbrev bRows (k : Fin k1_t1_loop.trips) : Vec F S1x8x16 .f32 :=
  rd x5 (Rect.unit (s := S1x256x16) (k1_off1 k) S1x8x16.size (k1_off1_inb k))
/-- The rows of the padded and rotated `C` a trip reads. -/
abbrev cRows (k : Fin k1_t1_loop.trips) : Vec F S1x8x128 .bf16 :=
  rd x6 (Rect.unit (s := S1x256x128) (k1_off2 k) S1x8x128.size (k1_off2_inb k))
/-- The rows of a block of `dt` or of the activations a trip reads, first half of the columns. -/
abbrev rows0 {e : EltTy} (x : Vec F S1x256x2048 e) (k : Fin k1_t1_loop.trips) : Vec F S1x8x1024 e :=
  rd x (Rect.unit (s := S1x256x2048) (k1_off3 k) S1x8x1024.size (k1_off3_inb k))
/-- The same on the second half. -/
abbrev rows1 {e : EltTy} (x : Vec F S1x256x2048 e) (k : Fin k1_t1_loop.trips) : Vec F S1x8x1024 e :=
  rd x (Rect.unit (s := S1x256x2048) (k1_off5 k) S1x8x1024.size (k1_off5_inb k))
/-- The first half of the state's columns. -/
abbrev st0 (h : Vec F S16x2048 .f32) : Vec F S16x1024 .f32 :=
  rd h (Rect.unit (s := S16x2048) ![0, 0] S16x1024.size inb_S16x2048_S16x1024_0_0)
/-- The second half of the state's columns. -/
abbrev st1 (h : Vec F S16x2048 .f32) : Vec F S16x1024 .f32 :=
  rd h (Rect.unit (s := S16x2048) ![0, 1024] S16x1024.size inb_S16x2048_S16x1024_0_1024)

/-- The writes one trip makes into the state. -/
def hTrip (h : Vec F S16x2048 .f32) (k : Fin k1_t1_loop.trips) : List (View.Piece (Elt F) S16x2048 .f32) :=
  [⟨Rect.unit (s := S16x2048) ![0, 1024] S16x1024.size inb_S16x2048_S16x1024_0_1024,
      last1 (k1_pay61 v3) (bRows x5 k) (st1 h) (rows1 x2 k) (rows1 x3 k)⟩,
   ⟨Rect.unit (s := S16x2048) ![0, 0] S16x1024.size inb_S16x2048_S16x1024_0_0,
      last0 (k1_pay61 v3) (bRows x5 k) (st0 h) (rows0 x2 k) (rows0 x3 k)⟩]

/-- The state one trip leaves, from the state it finds. -/
def hStep (h : Vec F S16x2048 .f32) (k : Fin k1_t1_loop.trips) : Vec F S16x2048 .f32 :=
  View.canon (hTrip v3 x2 x3 x5 h k)

/-- The stack of a trip's states the first half of the output rows is multiplied from. -/
def stk0 (h : Vec F S16x2048 .f32) (k : Fin k1_t1_loop.trips) : Vec F S128x1024 .bf16 :=
  fun j => View.canon (stack0 (k1_pay61 v3) (bRows x5 k) (st0 h) (rows0 x2 k) (rows0 x3 k))
    ((Rect.unit (s := S128x2048) ![0, 0] S128x1024.size inb_S128x2048_S128x1024_0_0).toLoadRect.idx j)

/-- The stack of a trip's states the second half of the output rows is multiplied from. -/
def stk1 (h : Vec F S16x2048 .f32) (k : Fin k1_t1_loop.trips) : Vec F S128x1024 .bf16 :=
  fun j => View.canon (stack1 (k1_pay61 v3) (bRows x5 k) (st1 h) (rows1 x2 k) (rows1 x3 k)
      ++ stack0 (k1_pay61 v3) (bRows x5 k) (st0 h) (rows0 x2 k) (rows0 x3 k))
    ((Rect.unit (s := S128x2048) ![0, 1024] S128x1024.size inb_S128x2048_S128x1024_0_1024).toLoadRect.idx j)

/-- The writes one trip makes into the output rows. -/
def yTrip (h : Vec F S16x2048 .f32) (k : Fin k1_t1_loop.trips) : List (View.Piece (Elt F) S256x2048 .f32) :=
  [⟨Rect.unit (s := S256x2048) (k1_off6 k) S8x1024.size (k1_off6_inb k),
      k1_pay62 (k1_pay10 (cRows x6 k)) (stk1 v3 x2 x3 x5 h k)⟩,
   ⟨Rect.unit (s := S256x2048) (k1_off4 k) S8x1024.size (k1_off4_inb k),
      k1_pay36 (k1_pay10 (cRows x6 k)) (stk0 v3 x2 x3 x5 h k)⟩]

/-- The stacks may be read back through any buffer's view after the writes into it. -/
theorem yTrip_eq {sp : Space} {κ : Kind} (v : View sig κ sp S128x2048 .bf16) (h : Vec F S16x2048 .f32) (k : Fin k1_t1_loop.trips) :
    yTrip v3 x2 x3 x5 x6 h k =
      [⟨Rect.unit (s := S256x2048) (k1_off6 k) S8x1024.size (k1_off6_inb k), k1_pay62 (k1_pay10 (cRows x6 k))
          (v.readCov (Val := Elt F) (stack1 (k1_pay61 v3) (bRows x5 k) (st1 h) (rows1 x2 k) (rows1 x3 k)
            ++ stack0 (k1_pay61 v3) (bRows x5 k) (st0 h) (rows0 x2 k) (rows0 x3 k))
            (Rect.unit (s := S128x2048) ![0, 1024] S128x1024.size inb_S128x2048_S128x1024_0_1024).toLoadRect)⟩,
       ⟨Rect.unit (s := S256x2048) (k1_off4 k) S8x1024.size (k1_off4_inb k), k1_pay36 (k1_pay10 (cRows x6 k))
          (v.readCov (Val := Elt F) (stack0 (k1_pay61 v3) (bRows x5 k) (st0 h) (rows0 x2 k) (rows0 x3 k))
            (Rect.unit (s := S128x2048) ![0, 0] S128x1024.size inb_S128x2048_S128x1024_0_0).toLoadRect)⟩] := by
  rw [View.readCov_eq_canon', View.readCov_eq_canon']; rfl

/-- The state before trip `k`, from the state `h` the loop finds. -/
def hSeq (h : Vec F S16x2048 .f32) : ℕ → Vec F S16x2048 .f32
  | 0 => h
  | k + 1 => if hk : k < k1_t1_loop.trips then hStep v3 x2 x3 x5 (hSeq h k) ⟨k, hk⟩ else hSeq h k

/-- The writes into the state before trip `k`, the last first. -/
def hPieces (h : Vec F S16x2048 .f32) : ℕ → List (View.Piece (Elt F) S16x2048 .f32)
  | 0 => []
  | k + 1 => if hk : k < k1_t1_loop.trips then hTrip v3 x2 x3 x5 (hSeq v3 x2 x3 x5 h k) ⟨k, hk⟩ ++ hPieces h k else hPieces h k

/-- The writes into the output rows before trip `k`, the last first. -/
def yPieces (h : Vec F S16x2048 .f32) : ℕ → List (View.Piece (Elt F) S256x2048 .f32)
  | 0 => []
  | k + 1 => if hk : k < k1_t1_loop.trips then yTrip v3 x2 x3 x5 x6 (hSeq v3 x2 x3 x5 h k) ⟨k, hk⟩ ++ yPieces h k else yPieces h k

theorem hSeq_succ (h : Vec F S16x2048 .f32) (k : Fin k1_t1_loop.trips) :
    hSeq v3 x2 x3 x5 h (k.val + 1) = hStep v3 x2 x3 x5 (hSeq v3 x2 x3 x5 h k.val) k := by
  rw [hSeq]; exact dif_pos k.isLt
theorem hPieces_succ (h : Vec F S16x2048 .f32) (k : Fin k1_t1_loop.trips) :
    hPieces v3 x2 x3 x5 h (k.val + 1) = hTrip v3 x2 x3 x5 (hSeq v3 x2 x3 x5 h k.val) k ++ hPieces v3 x2 x3 x5 h k.val := by
  rw [hPieces]; exact dif_pos k.isLt
theorem yPieces_succ (h : Vec F S16x2048 .f32) (k : Fin k1_t1_loop.trips) :
    yPieces v3 x2 x3 x5 x6 h (k.val + 1) = yTrip v3 x2 x3 x5 x6 (hSeq v3 x2 x3 x5 h k.val) k ++ yPieces v3 x2 x3 x5 x6 h k.val := by
  rw [yPieces]; exact dif_pos k.isLt

/-- A trip writes the whole state. -/
theorem hTrip_cover (h : Vec F S16x2048 .f32) (k : Fin k1_t1_loop.trips) (y : S16x2048.Idx) :
    ∃ pc ∈ hTrip v3 x2 x3 x5 h k, y ∈ pc.1.set :=
  View.cover_of_tiledL (hTrip v3 x2 x3 x5 h k) S16x1024.size (by sl_kernel_rfl) y

/-- The state buffer reads the state before trip `k`, over whatever the writes were made. -/
theorem read_hPieces {sp : Space} {κ : Kind} (v : View sig κ sp S16x2048 .f32) (f : v.ty.Contents (Elt F)) (k : ℕ)
    (hk : k ≤ k1_t1_loop.trips) :
    v.read (Elt F) (v.writes (Elt F) f (hPieces v3 x2 x3 x5 (v.read (Elt F) f) k)) = hSeq v3 x2 x3 x5 (v.read (Elt F) f) k := by
  cases k with
  | zero => rfl
  | succ k =>
    have e := hPieces_succ v3 x2 x3 x5 (v.read (Elt F) f) ⟨k, hk⟩
    have e' := hSeq_succ v3 x2 x3 x5 (v.read (Elt F) f) ⟨k, hk⟩
    simp only at e e'
    rw [e, e', View.writes_append]
    exact View.read_writes_eq_canon _ _ _ (hTrip_cover v3 x2 x3 x5 _ _)

/-- The writes of every trip before `n` are among those made by then. -/
theorem mem_yPieces (h : Vec F S16x2048 .f32) (k : Fin k1_t1_loop.trips) (pc : View.Piece (Elt F) S256x2048 .f32)
    (hpc : pc ∈ yTrip v3 x2 x3 x5 x6 (hSeq v3 x2 x3 x5 h k.val) k) (n : ℕ) (hn : n ≤ k1_t1_loop.trips) (hk : k.val < n) :
    pc ∈ yPieces v3 x2 x3 x5 x6 h n := by
  induction n with
  | zero => omega
  | succ n ih =>
    rw [yPieces_succ v3 x2 x3 x5 x6 h ⟨n, hn⟩]
    rcases Nat.lt_or_ge k.val n with hlt | hge
    · exact List.mem_append_right _ (ih (by omega) hlt)
    · obtain rfl : k = ⟨n, hn⟩ := Fin.ext (by simp only; omega)
      exact List.mem_append_left _ hpc

/-- The trips write all the output rows. -/
theorem yPieces_cover (h : Vec F S16x2048 .f32) (y : S256x2048.Idx) :
    ∃ pc ∈ yPieces v3 x2 x3 x5 x6 h k1_t1_loop.trips, y ∈ pc.1.set := by
  have h0 : (y 0).val < 256 := (y 0).isLt
  have h1 : (y 1).val < 2048 := (y 1).isLt
  have ht : k1_t1_loop.trips = 32 := by decide
  by_cases hc : (y 1).val < 1024
  · refine ⟨_, mem_yPieces v3 x2 x3 x5 x6 h ⟨(y 0).val / 8, by omega⟩ _ (List.mem_cons_of_mem _ (List.mem_singleton.mpr rfl)) _ le_rfl (by simp only; omega), ?_⟩
    rw [Rect.mem_set_unit, k1_off4_eq]
    intro a; fin_cases a
    · constructor
      · show 8 * ((y 0).val / 8) ≤ (y 0).val; omega
      · show (y 0).val < 8 * ((y 0).val / 8) + 8; omega
    · constructor
      · exact Nat.zero_le _
      · show (y 1).val < 0 + 1024; omega
  · refine ⟨_, mem_yPieces v3 x2 x3 x5 x6 h ⟨(y 0).val / 8, by omega⟩ _ List.mem_cons_self _ le_rfl (by simp only; omega), ?_⟩
    rw [Rect.mem_set_unit, k1_off6_eq]
    intro a; fin_cases a
    · constructor
      · show 8 * ((y 0).val / 8) ≤ (y 0).val; omega
      · show (y 0).val < 8 * ((y 0).val / 8) + 8; omega
    · constructor
      · show 1024 ≤ (y 1).val; omega
      · show (y 1).val < 1024 + 1024; omega

end Trip

end Cert.KernelIdeal.Run

end
-- ==== Proof.KernelIdeal.Trip.lean ====
/-
  The scan's loop: one trip run from any state, and the loop's invariant — before trip `k` the state buffer holds the
  writes of the trips before (`hPieces`), the output rows theirs (`yPieces`), the stack buffer anything.
-/
module

public import proofs.«01_k».proof.Proof.KernelIdeal.Scan
public import Idealize.ShloMosaic.Lib.Exec
public import Idealize.ShloMosaic.Lib.Pipeline.Kit

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- One trip: the blocks it reads stay, the state and the output rows take the trip's writes, the stack holds something. -/
theorem trip (c : Dev nD) (i : grid1.Coords)
    (arg2 : Memref sig .tc .vmem S1x256x2048 .bf16) (harg2 : arg2.IsWhole)
    (arg3 : Memref sig .tc .vmem S1x256x2048 .f32) (harg3 : arg3.IsWhole)
    (arg4 : Memref sig .tc .vmem S1x256x2048 .bf16) (harg4 : arg4.IsWhole)
    (arg5 : Memref sig .tc .vmem S1x256x16 .f32) (harg5 : arg5.IsWhole)
    (arg6 : Memref sig .tc .vmem S1x256x128 .bf16) (harg6 : arg6.IsWhole)
    (arg7 : Memref sig .tc .vmem S16x2048 .f32) (harg7 : arg7.IsWhole)
    (arg8 : Memref sig .tc .vmem S1x2048 .f32) (harg8 : arg8.IsWhole)
    (arg9 : Memref sig .tc .vmem S1024x2048 .f32) (harg9 : arg9.IsWhole)
    (arg10 : Memref sig .tc .vmem S1x256x1024 .f32) (harg10 : arg10.IsWhole)
    (arg11 : Memref sig .tc .vmem S16x2048 .f32) (harg11 : arg11.IsWhole)
    (arg12 : Memref sig .tc .vmem S256x2048 .f32) (harg12 : arg12.IsWhole)
    (arg13 : Memref sig .tc .vmem S128x2048 .bf16) (harg13 : arg13.IsWhole)
    (v3 : Vec F S16x2048 .f32)
    (f2 : BufTy.Contents (Elt F) arg2.view.ty) (f3 : BufTy.Contents (Elt F) arg3.view.ty)
    (f5 : BufTy.Contents (Elt F) arg5.view.ty) (f6 : BufTy.Contents (Elt F) arg6.view.ty)
    (f11 : BufTy.Contents (Elt F) arg11.view.ty) (f12 : BufTy.Contents (Elt F) arg12.view.ty)
    (f13 : BufTy.Contents (Elt F) arg13.view.ty) (k : Fin k1_t1_loop.trips) (E : Set ℕ) :
    (iprop((arg2.view.loc (c : Thread nD τ) ↦[arg2.view.set]{fullShare} f2) ∗ (arg3.view.loc (c : Thread nD τ) ↦[arg3.view.set]{fullShare} f3)
        ∗ (arg5.view.loc (c : Thread nD τ) ↦[arg5.view.set]{fullShare} f5) ∗ (arg6.view.loc (c : Thread nD τ) ↦[arg6.view.set]{fullShare} f6)
        ∗ (arg11.view.loc (c : Thread nD τ) ↦[arg11.view.set]{fullShare} f11) ∗ (arg12.view.loc (c : Thread nD τ) ↦[arg12.view.set]{fullShare} f12)
        ∗ (arg13.view.loc (c : Thread nD τ) ↦[arg13.view.set]{fullShare} f13)) : sProp 𝕄)
    ⊢ wp frame (wpE (defs₀ (F := F)) Variants.none (c : Thread nD τ) none) E
        (k1_t1_body (F := F) i arg2 harg2 arg3 harg3 arg4 harg4 arg5 harg5 arg6 harg6 arg7 harg7 arg8 harg8 arg9 harg9 arg10 harg10 arg11 harg11 arg12 harg12 arg13 harg13 v3 k PUnit.unit)
        (fun _ => iprop((arg2.view.loc (c : Thread nD τ) ↦[arg2.view.set]{fullShare} f2) ∗ (arg3.view.loc (c : Thread nD τ) ↦[arg3.view.set]{fullShare} f3)
        ∗ (arg5.view.loc (c : Thread nD τ) ↦[arg5.view.set]{fullShare} f5) ∗ (arg6.view.loc (c : Thread nD τ) ↦[arg6.view.set]{fullShare} f6)
        ∗ (arg11.view.loc (c : Thread nD τ) ↦[arg11.view.set]{fullShare} arg11.view.writes (Elt F) f11
            (hTrip v3 (arg2.view.read (Elt F) f2) (arg3.view.read (Elt F) f3) (arg5.view.read (Elt F) f5) (arg11.view.read (Elt F) f11) k))
        ∗ (arg12.view.loc (c : Thread nD τ) ↦[arg12.view.set]{fullShare} arg12.view.writes (Elt F) f12
            (yTrip v3 (arg2.view.read (Elt F) f2) (arg3.view.read (Elt F) f3) (arg5.view.read (Elt F) f5) (arg6.view.read (Elt F) f6) (arg11.view.read (Elt F) f11) k))
        ∗ (∃ f, (arg13.view.loc (c : Thread nD τ) ↦[arg13.view.set]{fullShare} f)))) := by
  have hk : k.val < 32 := Nat.lt_of_lt_of_le k.isLt k1_t1_abs.2.1
  unfold k1_t1_body
  iintro ⟨H2, H3, H5, H6, H11, H12, H13⟩
  sl_exec
  sl_step
  isplitl [H2]; · iexact H2
  isplitl [H3]; · iexact H3
  isplitl [H5]; · iexact H5
  isplitl [H6]; · iexact H6
  isplitl [H11]
  · iexact H11
  isplitl [H12]
  · rw [yTrip_eq v3 _ _ _ _ arg13.view]
    iexact H12
  iexists _; iexact H13

/-- The loop's invariant before trip `k`, at the contents the loop finds. -/
abbrev loopPre (c : Dev nD) (arg2 : Memref sig .tc .vmem S1x256x2048 .bf16) (arg3 : Memref sig .tc .vmem S1x256x2048 .f32)
    (arg5 : Memref sig .tc .vmem S1x256x16 .f32) (arg6 : Memref sig .tc .vmem S1x256x128 .bf16)
    (arg11 : Memref sig .tc .vmem S16x2048 .f32) (arg12 : Memref sig .tc .vmem S256x2048 .f32)
    (arg13 : Memref sig .tc .vmem S128x2048 .bf16) (v3 : Vec F S16x2048 .f32)
    (f2 : BufTy.Contents (Elt F) arg2.view.ty) (f3 : BufTy.Contents (Elt F) arg3.view.ty)
    (f5 : BufTy.Contents (Elt F) arg5.view.ty) (f6 : BufTy.Contents (Elt F) arg6.view.ty)
    (f11 : BufTy.Contents (Elt F) arg11.view.ty) (f12 : BufTy.Contents (Elt F) arg12.view.ty) (k : ℕ) : sProp 𝕄 :=
  iprop((arg2.view.loc (c : Thread nD τ) ↦[arg2.view.set]{fullShare} f2) ∗ (arg3.view.loc (c : Thread nD τ) ↦[arg3.view.set]{fullShare} f3)
    ∗ (arg5.view.loc (c : Thread nD τ) ↦[arg5.view.set]{fullShare} f5) ∗ (arg6.view.loc (c : Thread nD τ) ↦[arg6.view.set]{fullShare} f6)
    ∗ (∃ f, (arg11.view.loc (c : Thread nD τ) ↦[arg11.view.set]{fullShare} f) ∗ ⌜f = arg11.view.writes (Elt F) f11
        (hPieces v3 (arg2.view.read (Elt F) f2) (arg3.view.read (Elt F) f3) (arg5.view.read (Elt F) f5) (arg11.view.read (Elt F) f11) k)⌝)
    ∗ (∃ f, (arg12.view.loc (c : Thread nD τ) ↦[arg12.view.set]{fullShare} f) ∗ ⌜f = arg12.view.writes (Elt F) f12
        (yPieces v3 (arg2.view.read (Elt F) f2) (arg3.view.read (Elt F) f3) (arg5.view.read (Elt F) f5) (arg6.view.read (Elt F) f6)
          (arg11.view.read (Elt F) f11) k)⌝)
    ∗ (∃ f, (arg13.view.loc (c : Thread nD τ) ↦[arg13.view.set]{fullShare} f)))

set_option warn.classDefReducibility false in
/-- The loop goes by `loopPre`: each trip is `trip`. -/
@[sl_loop] def scanLoop (c : Dev nD) (E : Set ℕ) (i : grid1.Coords)
    (arg2 : Memref sig .tc .vmem S1x256x2048 .bf16) (harg2 : arg2.IsWhole)
    (arg3 : Memref sig .tc .vmem S1x256x2048 .f32) (harg3 : arg3.IsWhole)
    (arg4 : Memref sig .tc .vmem S1x256x2048 .bf16) (harg4 : arg4.IsWhole)
    (arg5 : Memref sig .tc .vmem S1x256x16 .f32) (harg5 : arg5.IsWhole)
    (arg6 : Memref sig .tc .vmem S1x256x128 .bf16) (harg6 : arg6.IsWhole)
    (arg7 : Memref sig .tc .vmem S16x2048 .f32) (harg7 : arg7.IsWhole)
    (arg8 : Memref sig .tc .vmem S1x2048 .f32) (harg8 : arg8.IsWhole)
    (arg9 : Memref sig .tc .vmem S1024x2048 .f32) (harg9 : arg9.IsWhole)
    (arg10 : Memref sig .tc .vmem S1x256x1024 .f32) (harg10 : arg10.IsWhole)
    (arg11 : Memref sig .tc .vmem S16x2048 .f32) (harg11 : arg11.IsWhole)
    (arg12 : Memref sig .tc .vmem S256x2048 .f32) (harg12 : arg12.IsWhole)
    (arg13 : Memref sig .tc .vmem S128x2048 .bf16) (harg13 : arg13.IsWhole)
    (v3 : Vec F S16x2048 .f32)
    (f2 : BufTy.Contents (Elt F) arg2.view.ty) (f3 : BufTy.Contents (Elt F) arg3.view.ty)
    (f5 : BufTy.Contents (Elt F) arg5.view.ty) (f6 : BufTy.Contents (Elt F) arg6.view.ty)
    (f11 : BufTy.Contents (Elt F) arg11.view.ty) (f12 : BufTy.Contents (Elt F) arg12.view.ty) :
    LoopInv (M := 𝕄) Idealize.ShloMosaic.frame (wpE (defs₀ (F := F)) Variants.none (c : Thread nD τ) none) E
      k1_t1_loop.lb k1_t1_loop.ub k1_t1_loop.st k1_t1_ok () (k1_t1_body (F := F) i arg2 harg2 arg3 harg3 arg4 harg4 arg5 harg5 arg6 harg6 arg7 harg7 arg8 harg8 arg9 harg9 arg10 harg10 arg11 harg11 arg12 harg12 arg13 harg13 v3) where
  inv k _ := loopPre c arg2 arg3 arg5 arg6 arg11 arg12 arg13 v3 f2 f3 f5 f6 f11 f12 k
  step k acc := by
    iintro ⟨H2, H3, H5, H6, ⟨%g11, H11, %e11⟩, ⟨%g12, H12, %e12⟩, ⟨%g13, H13⟩⟩
    iapply (wp_wand_r Idealize.ShloMosaic.frame (wpE (defs₀ (F := F)) Variants.none (c : Thread nD τ) none) E)
    isplitl [H2 H3 H5 H6 H11 H12 H13]
    · iapply (trip c i arg2 harg2 arg3 harg3 arg4 harg4 arg5 harg5 arg6 harg6 arg7 harg7 arg8 harg8 arg9 harg9 arg10 harg10 arg11 harg11 arg12 harg12 arg13 harg13 v3 f2 f3 f5 f6 g11 g12 g13 k E)
      isplitl [H2]; · iexact H2
      isplitl [H3]; · iexact H3
      isplitl [H5]; · iexact H5
      isplitl [H6]; · iexact H6
      isplitl [H11]; · iexact H11
      isplitl [H12]; · iexact H12
      iexact H13
    · iintro %_ ⟨H2, H3, H5, H6, H11, H12, H13⟩
      have er := read_hPieces v3 (arg2.view.read (Elt F) f2) (arg3.view.read (Elt F) f3) (arg5.view.read (Elt F) f5) arg11.view f11 k.val k.isLt.le
      isplitl [H2]; · iexact H2
      isplitl [H3]; · iexact H3
      isplitl [H5]; · iexact H5
      isplitl [H6]; · iexact H6
      isplitl [H11]
      · iexists _; isplitl [H11]; · iexact H11
        ipureintro
        rw [hPieces_succ, View.writes_append, ← e11, ← er, ← e11]
      isplitl [H12]
      · iexists _; isplitl [H12]; · iexact H12
        ipureintro
        rw [yPieces_succ, View.writes_append, ← e12, ← er, ← e11]
      iexact H13

end Cert.KernelIdeal.Run

end
-- ==== Proof.KernelIdeal.Body1.lean ====
/-
  The scan kernel's body at one grid point: from the staged blocks and the state the point finds — zero at the first
  block of rows of a batch, what the point before left otherwise — it leaves the output block `out1` and the state
  `hOut1`.
-/
module

public import proofs.«01_k».proof.Proof.KernelIdeal.Trip
public import Idealize.ShloMosaic.Lib.VecWindow

@[expose] public section

set_option maxRecDepth 16384
set_option maxHeartbeats 1000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The condition under which the body clears the state: the point is the first of its batch. -/
abbrev first1 (i : grid1.Coords) : Prop :=
  Scalar.cmpi .ne (Scalar.extui (Scalar.cmpi .eq (BitVec.ofNat 32 (i 1).val) 0#32)) 0#32 = 1#1

/-- The state a point leaves, from the state `h` its loop finds. -/
def hOut1 (x2 : Vec F S1x256x2048 .bf16) (x3 : Vec F S1x256x2048 .f32) (x5 : Vec F S1x256x16 .f32) (x7 : Vec F S16x2048 .f32)
    (h : Vec F S16x2048 .f32) : Vec F S16x2048 .f32 :=
  hSeq x7 x2 x3 x5 h k1_t1_loop.trips

/-- The block of the result a point leaves, from the state `h` its loop finds. -/
def out1 (x2 : Vec F S1x256x2048 .bf16) (x3 : Vec F S1x256x2048 .f32) (x4 : Vec F S1x256x2048 .bf16) (x5 : Vec F S1x256x16 .f32)
    (x6 : Vec F S1x256x128 .bf16) (x7 : Vec F S16x2048 .f32) (x8 : Vec F S1x2048 .f32) (x9 : Vec F S1024x2048 .f32)
    (h : Vec F S16x2048 .f32) : Vec F S1x256x1024 .f32 :=
  k1_pay64 (View.canon (yPieces x7 x2 x3 x5 x6 h k1_t1_loop.trips)) x3 x8 x4 x9

/-- A whole buffer read back through the pieces written into it holds their canon. -/
theorem readCov_whole {sp : Space} {κ : Kind} {s : Shape} {e : EltTy} (v : View sig κ sp s e) (L : List (View.Piece (Elt F) s e))
    {off : Fin s.rank → ℕ} (inb : ∀ a, off a + s.size a ≤ s.size a) :
    v.readCov (Val := Elt F) L (Rect.unit off s.size inb).toLoadRect = View.canon L := by
  rw [View.readCov_eq_canon']
  funext y
  exact congrArg (View.canon L) (funext fun a => Fin.ext (by
    show off a + 1 * (y a).val = (y a).val
    have := inb a; omega))

/-- The output block from the buffers' contents: every load of a whole buffer is its contents. -/
theorem out1_of (arg3 : Memref sig .tc .vmem S1x256x2048 .f32) (arg4 : Memref sig .tc .vmem S1x256x2048 .bf16)
    (arg7 : Memref sig .tc .vmem S16x2048 .f32) (arg8 : Memref sig .tc .vmem S1x2048 .f32) (arg9 : Memref sig .tc .vmem S1024x2048 .f32)
    (arg12 : Memref sig .tc .vmem S256x2048 .f32) (x2 : Vec F S1x256x2048 .bf16)
    (x5 : Vec F S1x256x16 .f32) (x6 : Vec F S1x256x128 .bf16) (n : ℕ) (hn : n = k1_t1_loop.trips) (h h' : Vec F S16x2048 .f32) (hh : h' = h)
    (f3 : BufTy.Contents (Elt F) arg3.view.ty) (f4 : BufTy.Contents (Elt F) arg4.view.ty)
    (f7 : BufTy.Contents (Elt F) arg7.view.ty) (f8 : BufTy.Contents (Elt F) arg8.view.ty) (f9 : BufTy.Contents (Elt F) arg9.view.ty) :
    k1_pay64
      (arg12.view.readCov (yPieces
          (arg7.view.readAt (Elt F) (Rect.unit (s := S16x2048) ![0, 0] S16x2048.size inb_S16x2048_S16x2048_0_0).toLoadRect f7)
          x2 (arg3.view.read (Elt F) f3) x5 x6 h' n)
        (Rect.unit (s := S256x2048) ![0, 0] S256x2048.size inb_S256x2048_S256x2048_0_0).toLoadRect)
      (arg3.view.readAt (Elt F) (Rect.unit (s := S1x256x2048) ![0, 0, 0] S1x256x2048.size inb_S1x256x2048_S1x256x2048_0_0_0).toLoadRect f3)
      (arg8.view.readAt (Elt F) (Rect.unit (s := S1x2048) ![0, 0] S1x2048.size inb_S1x2048_S1x2048_0_0).toLoadRect f8)
      (arg4.view.readAt (Elt F) (Rect.unit (s := S1x256x2048) ![0, 0, 0] S1x256x2048.size inb_S1x256x2048_S1x256x2048_0_0_0).toLoadRect f4)
      (arg9.view.readAt (Elt F) (Rect.unit (s := S1024x2048) ![0, 0] S1024x2048.size inb_S1024x2048_S1024x2048_0_0).toLoadRect f9)
    = out1 x2 (arg3.view.read (Elt F) f3) (arg4.view.read (Elt F) f4) x5 x6 (arg7.view.read (Elt F) f7) (arg8.view.read (Elt F) f8)
        (arg9.view.read (Elt F) f9) h := by
  subst hh
  rw [readCov_whole arg12.view, View.readAt_full arg3.view, View.readAt_full arg4.view, View.readAt_full arg7.view,
    View.readAt_full arg8.view, View.readAt_full arg9.view]
  unfold out1; rw [hn]

/-- The state buffer after the loop, over whatever was written before it. -/
theorem hOut1_of (arg7 : Memref sig .tc .vmem S16x2048 .f32) (arg11 : Memref sig .tc .vmem S16x2048 .f32) (x2 : Vec F S1x256x2048 .bf16)
    (x3 : Vec F S1x256x2048 .f32) (x5 : Vec F S1x256x16 .f32) (f7 : BufTy.Contents (Elt F) arg7.view.ty)
    (g : BufTy.Contents (Elt F) arg11.view.ty) (L : List (View.Piece (Elt F) S16x2048 .f32)) (n : ℕ) (hn : n = k1_t1_loop.trips) (h : Vec F S16x2048 .f32)
    (hL : arg11.view.read (Elt F) (arg11.view.writes (Elt F) g L) = h) :
    arg11.view.read (Elt F) (arg11.view.writes (Elt F) g (hPieces
        (arg7.view.readAt (Elt F) (Rect.unit (s := S16x2048) ![0, 0] S16x2048.size inb_S16x2048_S16x2048_0_0).toLoadRect f7)
        x2 x3 x5 (arg11.view.read (Elt F) (arg11.view.writes (Elt F) g L)) n ++ L))
      = hOut1 x2 x3 x5 (arg7.view.read (Elt F) f7) h := by
  rw [View.readAt_full arg7.view, View.writes_append, read_hPieces _ _ _ _ _ _ _ hn.le, hL]; unfold hOut1; rw [hn]

/-- The body at the first point of a batch: whatever the state buffer holds, the loop starts from zero. -/
theorem body1_first (c : Dev nD) (i : grid1.Coords)
    (arg2 : Memref sig .tc .vmem S1x256x2048 .bf16) (harg2 : arg2.IsWhole)
    (arg3 : Memref sig .tc .vmem S1x256x2048 .f32) (harg3 : arg3.IsWhole)
    (arg4 : Memref sig .tc .vmem S1x256x2048 .bf16) (harg4 : arg4.IsWhole)
    (arg5 : Memref sig .tc .vmem S1x256x16 .f32) (harg5 : arg5.IsWhole)
    (arg6 : Memref sig .tc .vmem S1x256x128 .bf16) (harg6 : arg6.IsWhole)
    (arg7 : Memref sig .tc .vmem S16x2048 .f32) (harg7 : arg7.IsWhole)
    (arg8 : Memref sig .tc .vmem S1x2048 .f32) (harg8 : arg8.IsWhole)
    (arg9 : Memref sig .tc .vmem S1024x2048 .f32) (harg9 : arg9.IsWhole)
    (arg10 : Memref sig .tc .vmem S1x256x1024 .f32) (harg10 : arg10.IsWhole)
    (arg11 : Memref sig .tc .vmem S16x2048 .f32) (harg11 : arg11.IsWhole)
    (arg12 : Memref sig .tc .vmem S256x2048 .f32) (harg12 : arg12.IsWhole)
    (arg13 : Memref sig .tc .vmem S128x2048 .bf16) (harg13 : arg13.IsWhole)
    (hc : first1 i)
    (x2 : Vec F S1x256x2048 .bf16)
    (x3 : Vec F S1x256x2048 .f32)
    (x4 : Vec F S1x256x2048 .bf16)
    (x5 : Vec F S1x256x16 .f32)
    (x6 : Vec F S1x256x128 .bf16)
    (x7 : Vec F S16x2048 .f32)
    (x8 : Vec F S1x2048 .f32)
    (x9 : Vec F S1024x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (out1 x2 x3 x4 x5 x6 x7 x8 x9 (k1_pay60 (F := F)))
            ∗ owns (c : Thread nD τ) arg11 fullShare (hOut1 x2 x3 x5 x7 (k1_pay60 (F := F))) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) E
          (cc1_mamba_scan_out i arg2 harg2 arg3 harg3 arg4 harg4 arg5 harg5 arg6 harg6 arg7 harg7 arg8 harg8 arg9 harg9 arg10 harg10 arg11 harg11 arg12 harg12 arg13 harg13) K := by
  simp only [cc1_mamba_scan_out_eq_skeleton]; unfold cc1_mamba_scan_out_skel
  simp only [k1_part7_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf2; subst hf3; subst hf4; subst hf5; subst hf6; subst hf7; subst hf8; subst hf9
  sl_exec (disch := sl_exact hc)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro
    exact (View.read_writes_full _ _ _ _ _).trans (out1_of arg3 arg4 arg7 arg8 arg9 arg12 _ _ _ _ rfl _ _ (View.read_writes_full _ _ _ _ _) f3 f4 f7 f8 f9)
  isplitl [H11]
  · iexists _; isplitr; swap; · iexact H11
    ipureintro
    exact hOut1_of arg7 arg11 _ _ _ f7 _ _ _ rfl _ (View.read_writes_full _ _ _ _ _)
  isplitl [H12]
  · iexists _, _; isplitr; swap; · iexact H12
    ipureintro; rfl
  iexists _, _; isplitr; swap; · iexact H13
  ipureintro; rfl

/-- The body at a later point of a batch: the loop starts from the state the buffer holds. -/
theorem body1_next (c : Dev nD) (i : grid1.Coords)
    (arg2 : Memref sig .tc .vmem S1x256x2048 .bf16) (harg2 : arg2.IsWhole)
    (arg3 : Memref sig .tc .vmem S1x256x2048 .f32) (harg3 : arg3.IsWhole)
    (arg4 : Memref sig .tc .vmem S1x256x2048 .bf16) (harg4 : arg4.IsWhole)
    (arg5 : Memref sig .tc .vmem S1x256x16 .f32) (harg5 : arg5.IsWhole)
    (arg6 : Memref sig .tc .vmem S1x256x128 .bf16) (harg6 : arg6.IsWhole)
    (arg7 : Memref sig .tc .vmem S16x2048 .f32) (harg7 : arg7.IsWhole)
    (arg8 : Memref sig .tc .vmem S1x2048 .f32) (harg8 : arg8.IsWhole)
    (arg9 : Memref sig .tc .vmem S1024x2048 .f32) (harg9 : arg9.IsWhole)
    (arg10 : Memref sig .tc .vmem S1x256x1024 .f32) (harg10 : arg10.IsWhole)
    (arg11 : Memref sig .tc .vmem S16x2048 .f32) (harg11 : arg11.IsWhole)
    (arg12 : Memref sig .tc .vmem S256x2048 .f32) (harg12 : arg12.IsWhole)
    (arg13 : Memref sig .tc .vmem S128x2048 .bf16) (harg13 : arg13.IsWhole)
    (hc : ¬ first1 i)
    (x2 : Vec F S1x256x2048 .bf16)
    (x3 : Vec F S1x256x2048 .f32)
    (x4 : Vec F S1x256x2048 .bf16)
    (x5 : Vec F S1x256x16 .f32)
    (x6 : Vec F S1x256x128 .bf16)
    (x7 : Vec F S16x2048 .f32)
    (x8 : Vec F S1x2048 .f32)
    (x9 : Vec F S1024x2048 .f32)
    (h : Vec F S16x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ owns (c : Thread nD τ) arg11 fullShare h ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (out1 x2 x3 x4 x5 x6 x7 x8 x9 h)
            ∗ owns (c : Thread nD τ) arg11 fullShare (hOut1 x2 x3 x5 x7 h) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) E
          (cc1_mamba_scan_out i arg2 harg2 arg3 harg3 arg4 harg4 arg5 harg5 arg6 harg6 arg7 harg7 arg8 harg8 arg9 harg9 arg10 harg10 arg11 harg11 arg12 harg12 arg13 harg13) K := by
  simp only [cc1_mamba_scan_out_eq_skeleton]; unfold cc1_mamba_scan_out_skel
  simp only [k1_part7_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, Hk⟩
  subst hf2; subst hf3; subst hf4; subst hf5; subst hf6; subst hf7; subst hf8; subst hf9; subst hf11
  sl_exec (disch := sl_exact hc)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro
    exact (View.read_writes_full _ _ _ _ _).trans (out1_of arg3 arg4 arg7 arg8 arg9 arg12 _ _ _ _ rfl _ _ rfl f3 f4 f7 f8 f9)
  isplitl [H11]
  · iexists _; isplitr; swap; · iexact H11
    ipureintro
    have e := hOut1_of arg7 arg11 (arg2.view.read (Elt F) f2) (arg3.view.read (Elt F) f3) (arg5.view.read (Elt F) f5) f7 f11 [] _ rfl _ rfl
    rw [List.append_nil] at e
    exact e
  isplitl [H12]
  · iexists _, _; isplitr; swap; · iexact H12
    ipureintro; rfl
  iexists _, _; isplitr; swap; · iexact H13
  ipureintro; rfl

end Cert.KernelIdeal.Run

end
-- ==== Proof.KernelIdeal.Body0.lean ====
/-
  The first kernel's body at one grid point: the gate and the convolved, activated block of channels it stores, the
  projection it starts (first block of a batch) or adds to (later ones), and at the last block of a batch the step
  sizes and the two projections it cuts out of the finished sum.
-/
module

public import proofs.«01_k».proof.Proof.KernelIdeal.Body1

@[expose] public section

set_option maxRecDepth 16384
set_option maxHeartbeats 1000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The point is the first block of channels of its batch. -/
abbrev first0 (i : grid0.Coords) : Prop :=
  Scalar.cmpi .ne (Scalar.extui (Scalar.cmpi .eq (BitVec.ofNat 32 (i 1).val) 0#32)) 0#32 = 1#1

/-- The point is a later block of channels of its batch. -/
abbrev later0 (i : grid0.Coords) : Prop :=
  Scalar.cmpi .ne (Scalar.extui (Scalar.cmpi .sgt (BitVec.ofNat 32 (i 1).val) 0#32)) 0#32 = 1#1

/-- The point is the last block of channels of its batch. -/
abbrev final0 (i : grid0.Coords) : Prop := k0_cond3 i = 1#1

/-- Row 0 of the block of convolution weights. -/
abbrev wrow0 (x5 : Vec F S4x512 .f32) : Vec F S1x512 .f32 := rd x5 (Rect.unit (s := S4x512) ![0, 0] S1x512.size inb_S4x512_S1x512_0_0)

/-- Row 1 of the block of convolution weights. -/
abbrev wrow1 (x5 : Vec F S4x512 .f32) : Vec F S1x512 .f32 := rd x5 (Rect.unit (s := S4x512) ![1, 0] S1x512.size inb_S4x512_S1x512_1_0)

/-- Row 2 of the block of convolution weights. -/
abbrev wrow2 (x5 : Vec F S4x512 .f32) : Vec F S1x512 .f32 := rd x5 (Rect.unit (s := S4x512) ![2, 0] S1x512.size inb_S4x512_S1x512_2_0)

/-- Row 3 of the block of convolution weights. -/
abbrev wrow3 (x5 : Vec F S4x512 .f32) : Vec F S1x512 .f32 := rd x5 (Rect.unit (s := S4x512) ![3, 0] S1x512.size inb_S4x512_S1x512_3_0)

/-- The activated block of channels a point stores. -/
def xcOut (x2 : Vec F S1x1024x1024 .f32) (x3 : Vec F S512x1024 .f32) (x5 : Vec F S4x512 .f32) (x6 : Vec F S1x512 .f32) : Vec F S1x1024x512 .f32 :=
  k0_pay2 (k0_pay13 x2 x3 (wrow3 x5) x6 (wrow0 x5) (wrow1 x5)) (k0_pay14 x2 x3) (wrow2 x5)

/-- The activated gate block a point stores. -/
def zsOut (x2 : Vec F S1x1024x1024 .f32) (x4 : Vec F S512x1024 .f32) : Vec F S1x1024x512 .bf16 :=
  k0_pay3 (k0_pay12 x2 x4)

/-- The projection's first summand. -/
def dblFirst (x2 : Vec F S1x1024x1024 .f32) (x3 : Vec F S512x1024 .f32) (x5 : Vec F S4x512 .f32) (x6 : Vec F S1x512 .f32)
    (x7 : Vec F S96x512 .f32) : Vec F S1024x96 .f32 :=
  k0_pay5 (k0_pay13 x2 x3 (wrow3 x5) x6 (wrow0 x5) (wrow1 x5)) (k0_pay14 x2 x3) (wrow2 x5) x7

/-- The projection with a further block's summand. -/
def dblNext (x2 : Vec F S1x1024x1024 .f32) (x3 : Vec F S512x1024 .f32) (x5 : Vec F S4x512 .f32) (x6 : Vec F S1x512 .f32)
    (x7 : Vec F S96x512 .f32) (d : Vec F S1024x96 .f32) : Vec F S1024x96 .f32 :=
  k0_pay6 (k0_pay13 x2 x3 (wrow3 x5) x6 (wrow0 x5) (wrow1 x5)) (k0_pay14 x2 x3) (wrow2 x5) x7 d

/-- The activated block, the blocks read through whole loads. -/
theorem xcOut_of (arg2 : Memref sig .tc .vmem S1x1024x1024 .f32) (arg3 : Memref sig .tc .vmem S512x1024 .f32) (arg5 : Memref sig .tc .vmem S4x512 .f32) (arg6 : Memref sig .tc .vmem S1x512 .f32)
    (f2 : BufTy.Contents (Elt F) arg2.view.ty) (f3 : BufTy.Contents (Elt F) arg3.view.ty) (f5 : BufTy.Contents (Elt F) arg5.view.ty) (f6 : BufTy.Contents (Elt F) arg6.view.ty) :
    k0_pay2 (k0_pay13 (arg2.view.readAt (Elt F) (Rect.unit (s := S1x1024x1024) ![0, 0, 0] S1x1024x1024.size inb_S1x1024x1024_S1x1024x1024_0_0_0).toLoadRect f2) (arg3.view.readAt (Elt F) (Rect.unit (s := S512x1024) ![0, 0] S512x1024.size inb_S512x1024_S512x1024_0_0).toLoadRect f3) (arg5.view.readAt (Elt F) (Rect.unit (s := S4x512) ![3, 0] S1x512.size inb_S4x512_S1x512_3_0).toLoadRect f5) (arg6.view.readAt (Elt F) (Rect.unit (s := S1x512) ![0, 0] S1x512.size inb_S1x512_S1x512_0_0).toLoadRect f6) (arg5.view.readAt (Elt F) (Rect.unit (s := S4x512) ![0, 0] S1x512.size inb_S4x512_S1x512_0_0).toLoadRect f5) (arg5.view.readAt (Elt F) (Rect.unit (s := S4x512) ![1, 0] S1x512.size inb_S4x512_S1x512_1_0).toLoadRect f5))
        (k0_pay14 (arg2.view.readAt (Elt F) (Rect.unit (s := S1x1024x1024) ![0, 0, 0] S1x1024x1024.size inb_S1x1024x1024_S1x1024x1024_0_0_0).toLoadRect f2) (arg3.view.readAt (Elt F) (Rect.unit (s := S512x1024) ![0, 0] S512x1024.size inb_S512x1024_S512x1024_0_0).toLoadRect f3)) (arg5.view.readAt (Elt F) (Rect.unit (s := S4x512) ![2, 0] S1x512.size inb_S4x512_S1x512_2_0).toLoadRect f5)
      = xcOut (arg2.view.read (Elt F) f2) (arg3.view.read (Elt F) f3) (arg5.view.read (Elt F) f5) (arg6.view.read (Elt F) f6) := by
  rw [View.readAt_full arg2.view, View.readAt_full arg3.view, View.readAt_full arg6.view]; rfl

/-- The gate block, likewise. -/
theorem zsOut_of (arg2 : Memref sig .tc .vmem S1x1024x1024 .f32) (arg4 : Memref sig .tc .vmem S512x1024 .f32)
    (f2 : BufTy.Contents (Elt F) arg2.view.ty) (f4 : BufTy.Contents (Elt F) arg4.view.ty) :
    k0_pay3 (k0_pay12 (arg2.view.readAt (Elt F) (Rect.unit (s := S1x1024x1024) ![0, 0, 0] S1x1024x1024.size inb_S1x1024x1024_S1x1024x1024_0_0_0).toLoadRect f2) (arg4.view.readAt (Elt F) (Rect.unit (s := S512x1024) ![0, 0] S512x1024.size inb_S512x1024_S512x1024_0_0).toLoadRect f4))
      = zsOut (arg2.view.read (Elt F) f2) (arg4.view.read (Elt F) f4) := by
  rw [View.readAt_full arg2.view, View.readAt_full arg4.view]; rfl

/-- The first summand, likewise. -/
theorem dblFirst_of (arg2 : Memref sig .tc .vmem S1x1024x1024 .f32) (arg3 : Memref sig .tc .vmem S512x1024 .f32) (arg5 : Memref sig .tc .vmem S4x512 .f32) (arg6 : Memref sig .tc .vmem S1x512 .f32) (arg7 : Memref sig .tc .vmem S96x512 .f32)
    (f2 : BufTy.Contents (Elt F) arg2.view.ty) (f3 : BufTy.Contents (Elt F) arg3.view.ty) (f5 : BufTy.Contents (Elt F) arg5.view.ty) (f6 : BufTy.Contents (Elt F) arg6.view.ty) (f7 : BufTy.Contents (Elt F) arg7.view.ty) :
    k0_pay5 (k0_pay13 (arg2.view.readAt (Elt F) (Rect.unit (s := S1x1024x1024) ![0, 0, 0] S1x1024x1024.size inb_S1x1024x1024_S1x1024x1024_0_0_0).toLoadRect f2) (arg3.view.readAt (Elt F) (Rect.unit (s := S512x1024) ![0, 0] S512x1024.size inb_S512x1024_S512x1024_0_0).toLoadRect f3) (arg5.view.readAt (Elt F) (Rect.unit (s := S4x512) ![3, 0] S1x512.size inb_S4x512_S1x512_3_0).toLoadRect f5) (arg6.view.readAt (Elt F) (Rect.unit (s := S1x512) ![0, 0] S1x512.size inb_S1x512_S1x512_0_0).toLoadRect f6) (arg5.view.readAt (Elt F) (Rect.unit (s := S4x512) ![0, 0] S1x512.size inb_S4x512_S1x512_0_0).toLoadRect f5) (arg5.view.readAt (Elt F) (Rect.unit (s := S4x512) ![1, 0] S1x512.size inb_S4x512_S1x512_1_0).toLoadRect f5))
        (k0_pay14 (arg2.view.readAt (Elt F) (Rect.unit (s := S1x1024x1024) ![0, 0, 0] S1x1024x1024.size inb_S1x1024x1024_S1x1024x1024_0_0_0).toLoadRect f2) (arg3.view.readAt (Elt F) (Rect.unit (s := S512x1024) ![0, 0] S512x1024.size inb_S512x1024_S512x1024_0_0).toLoadRect f3)) (arg5.view.readAt (Elt F) (Rect.unit (s := S4x512) ![2, 0] S1x512.size inb_S4x512_S1x512_2_0).toLoadRect f5) (arg7.view.readAt (Elt F) (Rect.unit (s := S96x512) ![0, 0] S96x512.size inb_S96x512_S96x512_0_0).toLoadRect f7)
      = dblFirst (arg2.view.read (Elt F) f2) (arg3.view.read (Elt F) f3) (arg5.view.read (Elt F) f5) (arg6.view.read (Elt F) f6) (arg7.view.read (Elt F) f7) := by
  rw [View.readAt_full arg2.view, View.readAt_full arg3.view, View.readAt_full arg6.view, View.readAt_full arg7.view]; rfl

/-- The sum, likewise. -/
theorem dblNext_of (arg2 : Memref sig .tc .vmem S1x1024x1024 .f32) (arg3 : Memref sig .tc .vmem S512x1024 .f32) (arg5 : Memref sig .tc .vmem S4x512 .f32) (arg6 : Memref sig .tc .vmem S1x512 .f32) (arg7 : Memref sig .tc .vmem S96x512 .f32) (arg15 : Memref sig .tc .vmem S1024x96 .f32)
    (f2 : BufTy.Contents (Elt F) arg2.view.ty) (f3 : BufTy.Contents (Elt F) arg3.view.ty) (f5 : BufTy.Contents (Elt F) arg5.view.ty) (f6 : BufTy.Contents (Elt F) arg6.view.ty) (f7 : BufTy.Contents (Elt F) arg7.view.ty) (f15 : BufTy.Contents (Elt F) arg15.view.ty) :
    k0_pay6 (k0_pay13 (arg2.view.readAt (Elt F) (Rect.unit (s := S1x1024x1024) ![0, 0, 0] S1x1024x1024.size inb_S1x1024x1024_S1x1024x1024_0_0_0).toLoadRect f2) (arg3.view.readAt (Elt F) (Rect.unit (s := S512x1024) ![0, 0] S512x1024.size inb_S512x1024_S512x1024_0_0).toLoadRect f3) (arg5.view.readAt (Elt F) (Rect.unit (s := S4x512) ![3, 0] S1x512.size inb_S4x512_S1x512_3_0).toLoadRect f5) (arg6.view.readAt (Elt F) (Rect.unit (s := S1x512) ![0, 0] S1x512.size inb_S1x512_S1x512_0_0).toLoadRect f6) (arg5.view.readAt (Elt F) (Rect.unit (s := S4x512) ![0, 0] S1x512.size inb_S4x512_S1x512_0_0).toLoadRect f5) (arg5.view.readAt (Elt F) (Rect.unit (s := S4x512) ![1, 0] S1x512.size inb_S4x512_S1x512_1_0).toLoadRect f5))
        (k0_pay14 (arg2.view.readAt (Elt F) (Rect.unit (s := S1x1024x1024) ![0, 0, 0] S1x1024x1024.size inb_S1x1024x1024_S1x1024x1024_0_0_0).toLoadRect f2) (arg3.view.readAt (Elt F) (Rect.unit (s := S512x1024) ![0, 0] S512x1024.size inb_S512x1024_S512x1024_0_0).toLoadRect f3)) (arg5.view.readAt (Elt F) (Rect.unit (s := S4x512) ![2, 0] S1x512.size inb_S4x512_S1x512_2_0).toLoadRect f5) (arg7.view.readAt (Elt F) (Rect.unit (s := S96x512) ![0, 0] S96x512.size inb_S96x512_S96x512_0_0).toLoadRect f7) (arg15.view.readAt (Elt F) (Rect.unit (s := S1024x96) ![0, 0] S1024x96.size inb_S1024x96_S1024x96_0_0).toLoadRect f15)
      = dblNext (arg2.view.read (Elt F) f2) (arg3.view.read (Elt F) f3) (arg5.view.read (Elt F) f5) (arg6.view.read (Elt F) f6) (arg7.view.read (Elt F) f7) (arg15.view.read (Elt F) f15) := by
  rw [View.readAt_full arg2.view, View.readAt_full arg3.view, View.readAt_full arg6.view, View.readAt_full arg7.view, View.readAt_full arg15.view]; rfl

/-- The step sizes, the projection known and the weights read through whole loads. -/
theorem pay7_of (arg8 : Memref sig .tc .vmem S2048x64 .f32) (arg9 : Memref sig .tc .vmem S1x2048 .f32)
    (f8 : BufTy.Contents (Elt F) arg8.view.ty) (f9 : BufTy.Contents (Elt F) arg9.view.ty) (d d' : Vec F S1024x96 .f32) (h : d = d') :
    k0_pay7 d (arg8.view.readAt (Elt F) (Rect.unit (s := S2048x64) ![0, 0] S2048x64.size inb_S2048x64_S2048x64_0_0).toLoadRect f8) (arg9.view.readAt (Elt F) (Rect.unit (s := S1x2048) ![0, 0] S1x2048.size inb_S1x2048_S1x2048_0_0).toLoadRect f9) = k0_pay7 d' (arg8.view.read (Elt F) f8) (arg9.view.read (Elt F) f9) := by
  rw [View.readAt_full arg8.view, View.readAt_full arg9.view, h]

/-- The body at the first block of channels of a batch. -/
theorem body0_first (c : Dev nD) (i : grid0.Coords)
    (arg2 : Memref sig .tc .vmem S1x1024x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S4x512 .f32) (harg5 : arg5.IsWhole)
    (arg6 : Memref sig .tc .vmem S1x512 .f32) (harg6 : arg6.IsWhole)
    (arg7 : Memref sig .tc .vmem S96x512 .f32) (harg7 : arg7.IsWhole)
    (arg8 : Memref sig .tc .vmem S2048x64 .f32) (harg8 : arg8.IsWhole)
    (arg9 : Memref sig .tc .vmem S1x2048 .f32) (harg9 : arg9.IsWhole)
    (arg10 : Memref sig .tc .vmem S1x1024x512 .f32) (harg10 : arg10.IsWhole)
    (arg11 : Memref sig .tc .vmem S1x1024x512 .bf16) (harg11 : arg11.IsWhole)
    (arg12 : Memref sig .tc .vmem S1x1024x2048 .bf16) (harg12 : arg12.IsWhole)
    (arg13 : Memref sig .tc .vmem S1x1024x16 .f32) (harg13 : arg13.IsWhole)
    (arg14 : Memref sig .tc .vmem S1x1024x128 .bf16) (harg14 : arg14.IsWhole)
    (arg15 : Memref sig .tc .vmem S1024x96 .f32) (harg15 : arg15.IsWhole)
    (hc0 : first0 i) (hc1 : ¬ later0 i) (hc2 : ¬ final0 i)
    (x2 : Vec F S1x1024x1024 .f32) (x3 : Vec F S512x1024 .f32) (x4 : Vec F S512x1024 .f32) (x5 : Vec F S4x512 .f32) (x6 : Vec F S1x512 .f32) (x7 : Vec F S96x512 .f32) (x8 : Vec F S2048x64 .f32) (x9 : Vec F S1x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (xcOut x2 x3 x5 x6) ∗ owns (c : Thread nD τ) arg11 fullShare (zsOut x2 x4)
            ∗ owns (c : Thread nD τ) arg15 fullShare (dblFirst x2 x3 x5 x6 x7)) -∗ K ⟨⟩))
      ⊢ wp frame (wpE (defs₀ (F := F)) Variants.none (c : Thread nD τ) none) E
          (cc0_mamba_proj_conv i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mamba_proj_conv_eq_skeleton]; unfold cc0_mamba_proj_conv_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d15, %f15, -, H15⟩, Hk⟩
  subst hf2; subst hf3; subst hf4; subst hf5; subst hf6; subst hf7; subst hf8; subst hf9
  sl_exec (disch := first | sl_exact hc0 | sl_exact hc1 | sl_exact hc2)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro
    exact (View.read_writes_full _ _ _ _ _).trans (xcOut_of arg2 arg3 arg5 arg6 f2 f3 f5 f6)
  isplitl [H11]
  · iexists _; isplitr; swap; · iexact H11
    ipureintro
    exact (View.read_writes_full _ _ _ _ _).trans (zsOut_of arg2 arg4 f2 f4)
  iexists _; isplitr; swap; · iexact H15
  ipureintro
  exact (View.read_writes_full _ _ _ _ _).trans (dblFirst_of arg2 arg3 arg5 arg6 arg7 f2 f3 f5 f6 f7)

/-- The body at a block of channels between the first and the last. -/
theorem body0_mid (c : Dev nD) (i : grid0.Coords)
    (arg2 : Memref sig .tc .vmem S1x1024x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S4x512 .f32) (harg5 : arg5.IsWhole)
    (arg6 : Memref sig .tc .vmem S1x512 .f32) (harg6 : arg6.IsWhole)
    (arg7 : Memref sig .tc .vmem S96x512 .f32) (harg7 : arg7.IsWhole)
    (arg8 : Memref sig .tc .vmem S2048x64 .f32) (harg8 : arg8.IsWhole)
    (arg9 : Memref sig .tc .vmem S1x2048 .f32) (harg9 : arg9.IsWhole)
    (arg10 : Memref sig .tc .vmem S1x1024x512 .f32) (harg10 : arg10.IsWhole)
    (arg11 : Memref sig .tc .vmem S1x1024x512 .bf16) (harg11 : arg11.IsWhole)
    (arg12 : Memref sig .tc .vmem S1x1024x2048 .bf16) (harg12 : arg12.IsWhole)
    (arg13 : Memref sig .tc .vmem S1x1024x16 .f32) (harg13 : arg13.IsWhole)
    (arg14 : Memref sig .tc .vmem S1x1024x128 .bf16) (harg14 : arg14.IsWhole)
    (arg15 : Memref sig .tc .vmem S1024x96 .f32) (harg15 : arg15.IsWhole)
    (hc0 : ¬ first0 i) (hc1 : later0 i) (hc2 : ¬ final0 i)
    (x2 : Vec F S1x1024x1024 .f32) (x3 : Vec F S512x1024 .f32) (x4 : Vec F S512x1024 .f32) (x5 : Vec F S4x512 .f32) (x6 : Vec F S1x512 .f32) (x7 : Vec F S96x512 .f32) (x8 : Vec F S2048x64 .f32) (x9 : Vec F S1x2048 .f32) (d : Vec F S1024x96 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ owns (c : Thread nD τ) arg15 fullShare d
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (xcOut x2 x3 x5 x6) ∗ owns (c : Thread nD τ) arg11 fullShare (zsOut x2 x4)
            ∗ owns (c : Thread nD τ) arg15 fullShare (dblNext x2 x3 x5 x6 x7 d)) -∗ K ⟨⟩))
      ⊢ wp frame (wpE (defs₀ (F := F)) Variants.none (c : Thread nD τ) none) E
          (cc0_mamba_proj_conv i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mamba_proj_conv_eq_skeleton]; unfold cc0_mamba_proj_conv_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f15, %hf15, H15⟩, Hk⟩
  subst hf2; subst hf3; subst hf4; subst hf5; subst hf6; subst hf7; subst hf8; subst hf9; subst hf15
  sl_exec (disch := first | sl_exact hc0 | sl_exact hc1 | sl_exact hc2)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro
    exact (View.read_writes_full _ _ _ _ _).trans (xcOut_of arg2 arg3 arg5 arg6 f2 f3 f5 f6)
  isplitl [H11]
  · iexists _; isplitr; swap; · iexact H11
    ipureintro
    exact (View.read_writes_full _ _ _ _ _).trans (zsOut_of arg2 arg4 f2 f4)
  iexists _; isplitr; swap; · iexact H15
  ipureintro
  exact (View.read_writes_full _ _ _ _ _).trans (dblNext_of arg2 arg3 arg5 arg6 arg7 arg15 f2 f3 f5 f6 f7 f15)

/-- The body at the last block of channels of a batch. -/
theorem body0_last (c : Dev nD) (i : grid0.Coords)
    (arg2 : Memref sig .tc .vmem S1x1024x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S4x512 .f32) (harg5 : arg5.IsWhole)
    (arg6 : Memref sig .tc .vmem S1x512 .f32) (harg6 : arg6.IsWhole)
    (arg7 : Memref sig .tc .vmem S96x512 .f32) (harg7 : arg7.IsWhole)
    (arg8 : Memref sig .tc .vmem S2048x64 .f32) (harg8 : arg8.IsWhole)
    (arg9 : Memref sig .tc .vmem S1x2048 .f32) (harg9 : arg9.IsWhole)
    (arg10 : Memref sig .tc .vmem S1x1024x512 .f32) (harg10 : arg10.IsWhole)
    (arg11 : Memref sig .tc .vmem S1x1024x512 .bf16) (harg11 : arg11.IsWhole)
    (arg12 : Memref sig .tc .vmem S1x1024x2048 .bf16) (harg12 : arg12.IsWhole)
    (arg13 : Memref sig .tc .vmem S1x1024x16 .f32) (harg13 : arg13.IsWhole)
    (arg14 : Memref sig .tc .vmem S1x1024x128 .bf16) (harg14 : arg14.IsWhole)
    (arg15 : Memref sig .tc .vmem S1024x96 .f32) (harg15 : arg15.IsWhole)
    (hc0 : ¬ first0 i) (hc1 : later0 i) (hc2 : final0 i)
    (x2 : Vec F S1x1024x1024 .f32) (x3 : Vec F S512x1024 .f32) (x4 : Vec F S512x1024 .f32) (x5 : Vec F S4x512 .f32) (x6 : Vec F S1x512 .f32) (x7 : Vec F S96x512 .f32) (x8 : Vec F S2048x64 .f32) (x9 : Vec F S1x2048 .f32) (d : Vec F S1024x96 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare d
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (xcOut x2 x3 x5 x6) ∗ owns (c : Thread nD τ) arg11 fullShare (zsOut x2 x4)
            ∗ owns (c : Thread nD τ) arg12 fullShare (k0_pay7 (dblNext x2 x3 x5 x6 x7 d) x8 x9) ∗ owns (c : Thread nD τ) arg13 fullShare (k0_pay8 (dblNext x2 x3 x5 x6 x7 d)) ∗ owns (c : Thread nD τ) arg14 fullShare (k0_pay9 (dblNext x2 x3 x5 x6 x7 d))
            ∗ owns (c : Thread nD τ) arg15 fullShare (dblNext x2 x3 x5 x6 x7 d)) -∗ K ⟨⟩))
      ⊢ wp frame (wpE (defs₀ (F := F)) Variants.none (c : Thread nD τ) none) E
          (cc0_mamba_proj_conv i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mamba_proj_conv_eq_skeleton]; unfold cc0_mamba_proj_conv_skel
  simp only [k0_part2_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, Hk⟩
  subst hf2; subst hf3; subst hf4; subst hf5; subst hf6; subst hf7; subst hf8; subst hf9; subst hf15
  sl_exec (disch := first | sl_exact hc0 | sl_exact hc1 | sl_exact hc2)
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro
    exact (View.read_writes_full _ _ _ _ _).trans (xcOut_of arg2 arg3 arg5 arg6 f2 f3 f5 f6)
  isplitl [H11]
  · iexists _; isplitr; swap; · iexact H11
    ipureintro
    exact (View.read_writes_full _ _ _ _ _).trans (zsOut_of arg2 arg4 f2 f4)
  isplitl [H12]
  · iexists _; isplitr; swap; · iexact H12
    ipureintro
    exact (View.read_writes_full _ _ _ _ _).trans (pay7_of arg8 arg9 f8 f9 _ _ ((View.readCov_full _ _ _ _ _).trans (dblNext_of arg2 arg3 arg5 arg6 arg7 arg15 f2 f3 f5 f6 f7 f15)))
  isplitl [H13]
  · iexists _; isplitr; swap; · iexact H13
    ipureintro
    exact (View.read_writes_full _ _ _ _ _).trans (congrArg k0_pay8 ((View.readCov_full _ _ _ _ _).trans (dblNext_of arg2 arg3 arg5 arg6 arg7 arg15 f2 f3 f5 f6 f7 f15)))
  isplitl [H14]
  · iexists _; isplitr; swap; · iexact H14
    ipureintro
    exact (View.read_writes_full _ _ _ _ _).trans (congrArg k0_pay9 ((View.readCov_full _ _ _ _ _).trans (dblNext_of arg2 arg3 arg5 arg6 arg7 arg15 f2 f3 f5 f6 f7 f15)))
  iexists _; isplitr; swap; · iexact H15
  ipureintro
  exact (View.read_writes_full _ _ _ _ _).trans (dblNext_of arg2 arg3 arg5 arg6 arg7 arg15 f2 f3 f5 f6 f7 f15)

end Cert.KernelIdeal.Run

end
-- ==== Proof.KernelIdeal.Region0.lean ====
/-
  The first call: what every staging buffer and the running projection hold after each point, and that the body does so
  at every point.
-/
module

public import proofs.«01_k».proof.Proof.KernelIdeal.Body0
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

theorem first0_iff : ∀ t : Fin cfg0.N, first0 (grid0.coords t) ↔ t.val % 4 = 0 :=
  (by decide +kernel : ∀ t : Fin grid0.N, first0 (grid0.coords t) ↔ t.val % 4 = 0)
theorem later0_iff : ∀ t : Fin cfg0.N, later0 (grid0.coords t) ↔ 1 ≤ t.val % 4 :=
  (by decide +kernel : ∀ t : Fin grid0.N, later0 (grid0.coords t) ↔ 1 ≤ t.val % 4)
theorem final0_iff : ∀ t : Fin cfg0.N, final0 (grid0.coords t) ↔ t.val % 4 = 3 :=
  (by decide +kernel : ∀ t : Fin grid0.N, final0 (grid0.coords t) ↔ t.val % 4 = 3)
/-- At a point that is not the last of its batch the last three outputs are idle. -/
theorem idle0_of (t : Fin cfg0.N) (h : ¬ t.val % 4 = 3) : (!(k0_cond3 (grid0.coords t) == 1#1)) = true := by
  have h' : ¬ k0_cond3 (grid0.coords t) = 1#1 := fun e => h ((final0_iff t).mp e)
  simp [h']
theorem live0_of (t : Fin cfg0.N) (h : t.val % 4 = 3) : (!(k0_cond3 (grid0.coords t) == 1#1)) = false := by
  have h' : k0_cond3 (grid0.coords t) = 1#1 := (final0_iff t).mpr h
  simp [h']

/-- The running projection's buffer. -/
abbrev scM0 : Memref sig .tc .vmem S1024x96 .f32 := Memref.whole cc0_scratch0

/-- The scoped buffers the call does not touch. -/
abbrev rest0 (c : Dev nD) : sProp 𝕄 :=
  Pipeline.scopedRestBut (Ix := Unit) (Name := ℕ) (U := UR sig nD τ) (Lvl := ℕ) (Val := Elt F) spec0 c [cc0_scratch0]

/-- The region's resources at its start: the projection's buffer at anything, the rest, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [scM0, owns_whole]; rfl

variable (V : (c : Dev nD) → (b : Ref sig .tc) → Buf (Elt F) ((c : Thread nD τ).loc b))

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's current staging buffer. -/
abbrev ms0_0 (t : Fin cfg0.N) : Memref sig .tc .vmem S1x1024x1024 .f32 := win0_0.stage (cfg0.slots t 0)
/-- Window 1's current staging buffer. -/
abbrev ms0_1 (t : Fin cfg0.N) : Memref sig .tc .vmem S512x1024 .f32 := win0_1.stage (cfg0.slots t 1)
/-- Window 2's current staging buffer. -/
abbrev ms0_2 (t : Fin cfg0.N) : Memref sig .tc .vmem S512x1024 .f32 := win0_2.stage (cfg0.slots t 2)
/-- Window 3's current staging buffer. -/
abbrev ms0_3 (t : Fin cfg0.N) : Memref sig .tc .vmem S4x512 .f32 := win0_3.stage (cfg0.slots t 3)
/-- Window 4's current staging buffer. -/
abbrev ms0_4 (t : Fin cfg0.N) : Memref sig .tc .vmem S1x512 .f32 := win0_4.stage (cfg0.slots t 4)
/-- Window 5's current staging buffer. -/
abbrev ms0_5 (t : Fin cfg0.N) : Memref sig .tc .vmem S96x512 .f32 := win0_5.stage (cfg0.slots t 5)
/-- Window 6's current staging buffer. -/
abbrev ms0_6 (t : Fin cfg0.N) : Memref sig .tc .vmem S2048x64 .f32 := win0_6.stage (cfg0.slots t 6)
/-- Window 7's current staging buffer. -/
abbrev ms0_7 (t : Fin cfg0.N) : Memref sig .tc .vmem S1x2048 .f32 := win0_7.stage (cfg0.slots t 7)
/-- Window 8's current staging buffer. -/
abbrev ms0_8 (t : Fin cfg0.N) : Memref sig .tc .vmem S1x1024x512 .f32 := win0_8.stage (cfg0.slots t 8)
/-- Window 9's current staging buffer. -/
abbrev ms0_9 (t : Fin cfg0.N) : Memref sig .tc .vmem S1x1024x512 .bf16 := win0_9.stage (cfg0.slots t 9)
/-- Window 10's current staging buffer. -/
abbrev ms0_10 (t : Fin cfg0.N) : Memref sig .tc .vmem S1x1024x2048 .bf16 := win0_10.stage (cfg0.slots t 10)
/-- Window 11's current staging buffer. -/
abbrev ms0_11 (t : Fin cfg0.N) : Memref sig .tc .vmem S1x1024x16 .f32 := win0_11.stage (cfg0.slots t 11)
/-- Window 12's current staging buffer. -/
abbrev ms0_12 (t : Fin cfg0.N) : Memref sig .tc .vmem S1x1024x128 .bf16 := win0_12.stage (cfg0.slots t 12)

/-- The projection after point `n`. -/
def dblAt (c : Dev nD) : (n : ℕ) → n < cfg0.N → Vec F S1024x96 .f32
  | 0, h => dblFirst (iblk0 V c 0 ⟨0, h⟩) (iblk0 V c 1 ⟨0, h⟩) (iblk0 V c 3 ⟨0, h⟩) (iblk0 V c 4 ⟨0, h⟩) (iblk0 V c 5 ⟨0, h⟩)
  | n + 1, h =>
    if (n + 1) % 4 = 0 then dblFirst (iblk0 V c 0 ⟨n + 1, h⟩) (iblk0 V c 1 ⟨n + 1, h⟩) (iblk0 V c 3 ⟨n + 1, h⟩) (iblk0 V c 4 ⟨n + 1, h⟩) (iblk0 V c 5 ⟨n + 1, h⟩)
    else dblNext (iblk0 V c 0 ⟨n + 1, h⟩) (iblk0 V c 1 ⟨n + 1, h⟩) (iblk0 V c 3 ⟨n + 1, h⟩) (iblk0 V c 4 ⟨n + 1, h⟩) (iblk0 V c 5 ⟨n + 1, h⟩) (dblAt c n (Nat.lt_of_succ_lt h))

/-- It starts anew at a batch's first block, -/
theorem dblAt_first (c : Dev nD) (t : Fin cfg0.N) (h : t.val % 4 = 0) :
    dblAt V c t.val t.isLt = dblFirst (iblk0 V c 0 t) (iblk0 V c 1 t) (iblk0 V c 3 t) (iblk0 V c 4 t) (iblk0 V c 5 t) := by
  obtain ⟨n, hn⟩ := t
  cases n with
  | zero => rfl
  | succ n => exact if_pos h

/-- and grows by one summand at every later one. -/
theorem dblAt_next (c : Dev nD) (t : Fin cfg0.N) (h : ¬ t.val % 4 = 0) :
    dblAt V c t.val t.isLt = dblNext (iblk0 V c 0 t) (iblk0 V c 1 t) (iblk0 V c 3 t) (iblk0 V c 4 t) (iblk0 V c 5 t) (dblAt V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: after the first point the projection's buffer holds `dblAt`. -/
def PhiS0 (c : Dev nD) : (n : ℕ) → n ≤ cfg0.N → sProp 𝕄
  | 0, _ => Pipeline.ΦA spec0 c
  | n + 1, hn => iprop(iprop(owns (c : Thread nD τ) scM0 fullShare (dblAt V c n hn) ∗ rest0 (F := F) c) ∗ (∃ r, prngReg c r))

theorem PhiS0_succ (c : Dev nD) (n : ℕ) (hn : n < cfg0.N) :
    PhiS0 V c (n + 1) hn = iprop(iprop(owns (c : Thread nD τ) scM0 fullShare (dblAt V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (dblAt V c (n - 1) (by omega)) ∗ rest0 (F := F) c) ∗ (∃ r, prngReg c r)) := by
  cases n with
  | zero => exact absurd rfl hz
  | succ n => rfl

/-- At any position the projection's buffer holds something. -/
theorem PhiS0_any (c : Dev nD) (n : ℕ) (h : n ≤ cfg0.N) :
    PhiS0 V c n h ⊢ iprop(iprop((∃ d, owns (c : Thread nD τ) scM0 fullShare d) ∗ rest0 (F := F) c) ∗ (∃ r, prngReg c r)) := by
  by_cases hz : n = 0
  · subst hz; rw [← PhiA0_eq]; exact .rfl
  · rw [PhiS0_pos V c n h hz]
    iintro ⟨⟨HS, Hr⟩, Hg⟩
    isplitl [HS Hr]
    · isplitl [HS]
      · iexists _; iexact HS
      iexact Hr
    iexact Hg

/-- The proof data of the first call, its arrays at `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => xcOut (iblk0 V c 0 t) (iblk0 V c 1 t) (iblk0 V c 3 t) (iblk0 V c 4 t)
    | ⟨9, _⟩ => zsOut (iblk0 V c 0 t) (iblk0 V c 2 t)
    | ⟨10, _⟩ => k0_pay7 (dblAt V c t.val t.isLt) (iblk0 V c 6 t) (iblk0 V c 7 t)
    | ⟨11, _⟩ => k0_pay8 (dblAt V c t.val t.isLt)
    | ⟨12, _⟩ => k0_pay9 (dblAt V c t.val t.isLt)
  Φ t := PhiS0 V c t.val (Nat.le_of_lt_succ t.isLt)
  q w := Pipeline.shareOf spec0 w
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; exact Pipeline.Dat.Φ_castSucc (PhiS0 V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = xcOut (iblk0 V c 0 t) (iblk0 V c 1 t) (iblk0 V c 3 t) (iblk0 V c 4 t) := by dsimp only [dat0]
theorem after0_9 (c : Dev nD) (t : Fin cfg0.N) : (dat0 V c).after 9 t = zsOut (iblk0 V c 0 t) (iblk0 V c 2 t) := by dsimp only [dat0]
theorem after0_10 (c : Dev nD) (t : Fin cfg0.N) : (dat0 V c).after 10 t = k0_pay7 (dblAt V c t.val t.isLt) (iblk0 V c 6 t) (iblk0 V c 7 t) := by dsimp only [dat0]
theorem after0_11 (c : Dev nD) (t : Fin cfg0.N) : (dat0 V c).after 11 t = k0_pay8 (dblAt V c t.val t.isLt) := by dsimp only [dat0]
theorem after0_12 (c : Dev nD) (t : Fin cfg0.N) : (dat0 V c).after 12 t = k0_pay9 (dblAt V c t.val t.isLt) := by dsimp only [dat0]

/-- An input's current buffer holds its block, whether or not the point fetched it. -/
theorem before0_in (c : Dev nD) (w : Fin cfg0.W) (hw : (cfg0.win w).isOut = false) (hidle : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat0 V c).after w t) = iblk0 V c w t)
    (t : Fin cfg0.N) (d) : (dat0 V c).before w t d = (dat0 V c).fetched w t d :=
  (dat0 V c).before_in_eq_fetched w hw hidle hclip
    (fun t => by rw [hkeep]; unfold Dat.blockOf iblk0; rw [A_eq0]) t d
theorem before0_0 (c : Dev nD) (t : Fin cfg0.N) (d) : (dat0 V c).before 0 t d = iblk0 V c 0 t :=
  (before0_in V c 0 rfl (fun _ => rfl) (fun _ _ _ => rfl) (fun t => by rw [after0_0]; try rfl) t d).trans
    (by unfold Dat.fetched Dat.blockOf iblk0; rw [A_eq0]; try rfl)
theorem before0_1 (c : Dev nD) (t : Fin cfg0.N) (d) : (dat0 V c).before 1 t d = iblk0 V c 1 t :=
  (before0_in V c 1 rfl (fun _ => rfl) (fun _ _ _ => rfl) (fun t => by rw [after0_1]; try rfl) t d).trans
    (by unfold Dat.fetched Dat.blockOf iblk0; rw [A_eq0]; try rfl)
theorem before0_2 (c : Dev nD) (t : Fin cfg0.N) (d) : (dat0 V c).before 2 t d = iblk0 V c 2 t :=
  (before0_in V c 2 rfl (fun _ => rfl) (fun _ _ _ => rfl) (fun t => by rw [after0_2]; try rfl) t d).trans
    (by unfold Dat.fetched Dat.blockOf iblk0; rw [A_eq0]; try rfl)
theorem before0_3 (c : Dev nD) (t : Fin cfg0.N) (d) : (dat0 V c).before 3 t d = iblk0 V c 3 t :=
  (before0_in V c 3 rfl (fun _ => rfl) (fun _ _ _ => rfl) (fun t => by rw [after0_3]; try rfl) t d).trans
    (by unfold Dat.fetched Dat.blockOf iblk0; rw [A_eq0]; try rfl)
theorem before0_4 (c : Dev nD) (t : Fin cfg0.N) (d) : (dat0 V c).before 4 t d = iblk0 V c 4 t :=
  (before0_in V c 4 rfl (fun _ => rfl) (fun _ _ _ => rfl) (fun t => by rw [after0_4]; try rfl) t d).trans
    (by unfold Dat.fetched Dat.blockOf iblk0; rw [A_eq0]; try rfl)
theorem before0_5 (c : Dev nD) (t : Fin cfg0.N) (d) : (dat0 V c).before 5 t d = iblk0 V c 5 t :=
  (before0_in V c 5 rfl (fun _ => rfl) (fun _ _ _ => rfl) (fun t => by rw [after0_5]; try rfl) t d).trans
    (by unfold Dat.fetched Dat.blockOf iblk0; rw [A_eq0]; try rfl)
theorem before0_6 (c : Dev nD) (t : Fin cfg0.N) (d) : (dat0 V c).before 6 t d = iblk0 V c 6 t :=
  (before0_in V c 6 rfl (fun _ => rfl) (fun _ _ _ => rfl) (fun t => by rw [after0_6]; try rfl) t d).trans
    (by unfold Dat.fetched Dat.blockOf iblk0; rw [A_eq0]; try rfl)
theorem before0_7 (c : Dev nD) (t : Fin cfg0.N) (d) : (dat0 V c).before 7 t d = iblk0 V c 7 t :=
  (before0_in V c 7 rfl (fun _ => rfl) (fun _ _ _ => rfl) (fun t => by rw [after0_7]; try rfl) t d).trans
    (by unfold Dat.fetched Dat.blockOf iblk0; rw [A_eq0]; try rfl)

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- What it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ (dat0 V c).leavesExact 10 t
    ∗ (dat0 V c).leavesExact 11 t
    ∗ (dat0 V c).leavesExact 12 t)

theorem leaves0_10 (c : Dev nD) (t : Fin cfg0.N) (h : t.val % 4 = 3) : (dat0 V c).leavesExact 10 t = owns (c : Thread nD τ) (ms0_10 t) fullShare ((dat0 V c).after 10 t) := by
  unfold Dat.leavesExact; rw [show cfg0.idle 10 (cfg0.grid.coords t) = false from live0_of t h]
theorem leaves0_11 (c : Dev nD) (t : Fin cfg0.N) (h : t.val % 4 = 3) : (dat0 V c).leavesExact 11 t = owns (c : Thread nD τ) (ms0_11 t) fullShare ((dat0 V c).after 11 t) := by
  unfold Dat.leavesExact; rw [show cfg0.idle 11 (cfg0.grid.coords t) = false from live0_of t h]
theorem leaves0_12 (c : Dev nD) (t : Fin cfg0.N) (h : t.val % 4 = 3) : (dat0 V c).leavesExact 12 t = owns (c : Thread nD τ) (ms0_12 t) fullShare ((dat0 V c).after 12 t) := by
  unfold Dat.leavesExact; rw [show cfg0.idle 12 (cfg0.grid.coords t) = false from live0_of t h]
theorem keeps0_10 (c : Dev nD) (t : Fin cfg0.N) (h : ¬ t.val % 4 = 3) : (dat0 V c).leavesExact 10 t = iprop(∃ d, owns (c : Thread nD τ) (ms0_10 t) fullShare ((dat0 V c).before 10 t d)) := by
  unfold Dat.leavesExact; rw [show cfg0.idle 10 (cfg0.grid.coords t) = true from idle0_of t h, Bool.eq_false_iff.mpr fun e => h ((flush0_10 t).mp e)]
theorem keeps0_11 (c : Dev nD) (t : Fin cfg0.N) (h : ¬ t.val % 4 = 3) : (dat0 V c).leavesExact 11 t = iprop(∃ d, owns (c : Thread nD τ) (ms0_11 t) fullShare ((dat0 V c).before 11 t d)) := by
  unfold Dat.leavesExact; rw [show cfg0.idle 11 (cfg0.grid.coords t) = true from idle0_of t h, Bool.eq_false_iff.mpr fun e => h ((flush0_11 t).mp e)]
theorem keeps0_12 (c : Dev nD) (t : Fin cfg0.N) (h : ¬ t.val % 4 = 3) : (dat0 V c).leavesExact 12 t = iprop(∃ d, owns (c : Thread nD τ) (ms0_12 t) fullShare ((dat0 V c).before 12 t d)) := by
  unfold Dat.leavesExact; rw [show cfg0.idle 12 (cfg0.grid.coords t) = true from idle0_of t h, Bool.eq_false_iff.mpr fun e => h ((flush0_12 t).mp e)]

set_option maxHeartbeats 2000000 in
/-- The body at any point: from the staged blocks to the contents the proof data names. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    show (dat0 V c).Φ t.succ = PhiS0 V c (t.val + 1) t.isLt from rfl, PhiS0_succ, PhiS0_castSucc,
    after0_0, after0_1, after0_2, after0_3, after0_4, after0_5, after0_6, after0_7, after0_8, after0_9]
  have hN : t.val < 8 := lt_of_lt_of_eq t.isLt (show cfg0.N = 8 from N_0)
  by_cases h0 : t.val % 4 = 0
  · refine (Laws.sep_mono (PhiS0_any V c _ _) .rfl).trans ?_
    rw [keeps0_10 V c t (by omega), keeps0_11 V c t (by omega), keeps0_12 V c t (by omega)]
    rw [dblAt_first V c t h0]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body0_first c (grid0.coords t) _ _ _ _ _ _ _ _ _ _ _ _ _ _ _ _ _ _ _ _ _ _ _ _ _ _ _ _ ((first0_iff t).mpr h0) (fun h => absurd ((later0_iff t).mp h) (by omega)) (fun h => absurd ((final0_iff t).mp h) (by omega)) (iblk0 V c 0 t) (iblk0 V c 1 t) (iblk0 V c 2 t) (iblk0 V c 3 t) (iblk0 V c 4 t) (iblk0 V c 5 t) (iblk0 V c 6 t) (iblk0 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS HR Hg]
    · isplitl [HS HR]
      · isplitl [HS]
        · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    iexists _; iexact H12
  · by_cases h3 : t.val % 4 = 3
    · rw [PhiS0_pos V c _ _ (by omega)]
      rw [leaves0_10 V c t h3, leaves0_11 V c t h3, leaves0_12 V c t h3, after0_10, after0_11, after0_12]
      rw [dblAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body0_last c (grid0.coords t) _ _ _ _ _ _ _ _ _ _ _ _ _ _ _ _ _ _ _ _ _ _ _ _ _ _ _ _ (fun h => h0 ((first0_iff t).mp h)) ((later0_iff t).mpr (by omega)) ((final0_iff t).mpr h3) (iblk0 V c 0 t) (iblk0 V c 1 t) (iblk0 V c 2 t) (iblk0 V c 3 t) (iblk0 V c 4 t) (iblk0 V c 5 t) (iblk0 V c 6 t) (iblk0 V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS]; · iexact HS
      iintro ⟨H0, H1, H2, H3, H4, H5, H6, H7, H8, H9, H10, H11, H12, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [PhiS0_pos V c _ _ (by omega)]
      rw [keeps0_10 V c t h3, keeps0_11 V c t h3, keeps0_12 V c t h3]
      rw [dblAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body0_mid c (grid0.coords t) _ _ _ _ _ _ _ _ _ _ _ _ _ _ _ _ _ _ _ _ _ _ _ _ _ _ _ _ (fun h => h0 ((first0_iff t).mp h)) ((later0_iff t).mpr (by omega)) (fun h => h3 ((final0_iff t).mp h)) (iblk0 V c 0 t) (iblk0 V c 1 t) (iblk0 V c 2 t) (iblk0 V c 3 t) (iblk0 V c 4 t) (iblk0 V c 5 t) (iblk0 V c 6 t) (iblk0 V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, H8, H9, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      iexists _; iexact H12

/-- The body table's row at a point is the body there. -/
theorem defs₀_row0 (t : Fin cfg0.N) : defs₀ (F := F) .tc cfg0.body (cfg0.bodyArgs t (cfg0.slots t)) = bodyAt0 t := by
  unfold defs₀; rw [Defs.onTc_tc]

/-- The body obligation of the region. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The resources the region starts from are its invariant before the first point, -/
theorem Phi0_in (c : Dev nD) : (dat0 V c).Φ 0 = (Pipeline.ΦA spec0 c : sProp 𝕄) := rfl

/-- and its invariant after the last point gives them back. -/
theorem Phi0_out (c : Dev nD) : (dat0 V c).Φ (Fin.last cfg0.N) ⊢ (Pipeline.ΦA spec0 c : sProp 𝕄) := by
  rw [PhiA0_eq]; exact PhiS0_any V c cfg0.N (le_refl _)

end Cert.KernelIdeal.Run

end
-- ==== Proof.KernelIdeal.Region1.lean ====
/-
  The second call: what every staging buffer and the scan's state hold after each point, and that the body does so at
  every point.
-/
module

public import proofs.«01_k».proof.Proof.KernelIdeal.Body1
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

theorem first1_iff : ∀ t : Fin cfg1.N, first1 (grid1.coords t) ↔ t.val % 4 = 0 :=
  (by decide +kernel : ∀ t : Fin grid1.N, first1 (grid1.coords t) ↔ t.val % 4 = 0)

/-- The buffers of the state, of the rows of one block and of the stacked states. -/
abbrev scH : Memref sig .tc .vmem S16x2048 .f32 := Memref.whole cc1_scratch0
abbrev scY : Memref sig .tc .vmem S256x2048 .f32 := Memref.whole cc1_scratch1
abbrev scB : Memref sig .tc .vmem S128x2048 .bf16 := Memref.whole cc1_scratch2

/-- The scoped buffers the call does not touch. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- Everything of the region but the state's buffer. -/
abbrev oth1 (c : Dev nD) : sProp 𝕄 :=
  iprop(((∃ d, owns (c : Thread nD τ) scY fullShare d) ∗ (∃ d, owns (c : Thread nD τ) scB fullShare d)) ∗ rest1 (F := F) c ∗ (∃ r, prngReg c r))

/-- The region's resources at its start. -/
theorem PhiA1_eq (c : Dev nD) :
    (Pipeline.ΦA spec1 c : sProp 𝕄)
      = iprop(iprop(iprop((∃ d, owns (c : Thread nD τ) scH fullShare d) ∗ (∃ d, owns (c : Thread nD τ) scY fullShare d)
          ∗ (∃ d, owns (c : Thread nD τ) scB fullShare d)) ∗ rest1 (F := F) c) ∗ (∃ r, prngReg c r)) := by
  unfold Pipeline.ΦA
  rw [scopedRest1_split]
  simp only [scH, scY, scB, owns_whole]; rfl

variable (V : (c : Dev nD) → (b : Ref sig .tc) → Buf (Elt F) ((c : Thread nD τ).loc b))

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer. -/
abbrev ms1_0 (t : Fin cfg1.N) : Memref sig .tc .vmem S1x256x2048 .bf16 := win1_0.stage (cfg1.slots t 0)
/-- Window 1's current staging buffer. -/
abbrev ms1_1 (t : Fin cfg1.N) : Memref sig .tc .vmem S1x256x2048 .f32 := win1_1.stage (cfg1.slots t 1)
/-- Window 2's current staging buffer. -/
abbrev ms1_2 (t : Fin cfg1.N) : Memref sig .tc .vmem S1x256x2048 .bf16 := win1_2.stage (cfg1.slots t 2)
/-- Window 3's current staging buffer. -/
abbrev ms1_3 (t : Fin cfg1.N) : Memref sig .tc .vmem S1x256x16 .f32 := win1_3.stage (cfg1.slots t 3)
/-- Window 4's current staging buffer. -/
abbrev ms1_4 (t : Fin cfg1.N) : Memref sig .tc .vmem S1x256x128 .bf16 := win1_4.stage (cfg1.slots t 4)
/-- Window 5's current staging buffer. -/
abbrev ms1_5 (t : Fin cfg1.N) : Memref sig .tc .vmem S16x2048 .f32 := win1_5.stage (cfg1.slots t 5)
/-- Window 6's current staging buffer. -/
abbrev ms1_6 (t : Fin cfg1.N) : Memref sig .tc .vmem S1x2048 .f32 := win1_6.stage (cfg1.slots t 6)
/-- Window 7's current staging buffer. -/
abbrev ms1_7 (t : Fin cfg1.N) : Memref sig .tc .vmem S1024x2048 .f32 := win1_7.stage (cfg1.slots t 7)
/-- Window 8's current staging buffer. -/
abbrev ms1_8 (t : Fin cfg1.N) : Memref sig .tc .vmem S1x256x1024 .f32 := win1_8.stage (cfg1.slots t 8)

/-- The state point `n`'s loop starts from: zero at a batch's first block, the state the point before left otherwise. -/
def hIn (c : Dev nD) : (n : ℕ) → n < cfg1.N → Vec F S16x2048 .f32
  | 0, _ => k1_pay60
  | n + 1, h =>
    if (n + 1) % 4 = 0 then k1_pay60
    else hOut1 (iblk1 V c 0 ⟨n, Nat.lt_of_succ_lt h⟩) (iblk1 V c 1 ⟨n, Nat.lt_of_succ_lt h⟩) (iblk1 V c 3 ⟨n, Nat.lt_of_succ_lt h⟩) (iblk1 V c 5 ⟨n, Nat.lt_of_succ_lt h⟩) (hIn c n (Nat.lt_of_succ_lt h))

/-- The state point `n` leaves. -/
def hAt (c : Dev nD) (n : ℕ) (h : n < cfg1.N) : Vec F S16x2048 .f32 :=
  hOut1 (iblk1 V c 0 ⟨n, h⟩) (iblk1 V c 1 ⟨n, h⟩) (iblk1 V c 3 ⟨n, h⟩) (iblk1 V c 5 ⟨n, h⟩) (hIn V c n h)

theorem hIn_first (c : Dev nD) (t : Fin cfg1.N) (h : t.val % 4 = 0) : hIn V c t.val t.isLt = k1_pay60 := by
  obtain ⟨n, hn⟩ := t
  cases n with
  | zero => rfl
  | succ n => exact if_pos h

theorem hIn_next (c : Dev nD) (t : Fin cfg1.N) (h : ¬ t.val % 4 = 0) :
    hIn V c t.val t.isLt = hAt V c (t.val - 1) (Nat.lt_of_le_of_lt (Nat.sub_le _ _) t.isLt) := by
  obtain ⟨n, hn⟩ := t
  cases n with
  | zero => exact absurd (Nat.zero_mod _) h
  | succ n => exact if_neg h

/-- The region's invariant before position `n`: after the first point the state's buffer holds `hAt`. -/
def PhiS1 (c : Dev nD) : (n : ℕ) → n ≤ cfg1.N → sProp 𝕄
  | 0, _ => Pipeline.ΦA spec1 c
  | n + 1, hn => iprop(owns (c : Thread nD τ) scH fullShare (hAt V c n hn) ∗ oth1 (F := F) c)

theorem PhiS1_succ (c : Dev nD) (n : ℕ) (hn : n < cfg1.N) :
    PhiS1 V c (n + 1) hn = iprop(owns (c : Thread nD τ) scH fullShare (hAt V c n hn) ∗ oth1 (F := F) c) := rfl

theorem PhiS1_pos (c : Dev nD) (n : ℕ) (h : n ≤ cfg1.N) (hz : n ≠ 0) :
    PhiS1 V c n h = iprop(owns (c : Thread nD τ) scH fullShare (hAt V c (n - 1) (by omega)) ∗ oth1 (F := F) c) := by
  cases n with
  | zero => exact absurd rfl hz
  | succ n => rfl

/-- At any position the state's buffer holds something. -/
theorem PhiS1_any (c : Dev nD) (n : ℕ) (h : n ≤ cfg1.N) :
    PhiS1 V c n h ⊢ iprop((∃ d, owns (c : Thread nD τ) scH fullShare d) ∗ oth1 (F := F) c) := by
  by_cases hz : n = 0
  · subst hz
    rw [show PhiS1 V c 0 h = Pipeline.ΦA spec1 c from rfl, PhiA1_eq]
    iintro ⟨⟨⟨HS, HY, HB⟩, Hr⟩, Hg⟩
    isplitl [HS]; · iexact HS
    isplitl [HY HB]
    · isplitl [HY]; · iexact HY
      iexact HB
    isplitl [Hr]; · iexact Hr
    iexact Hg
  · rw [PhiS1_pos V c n h hz]
    iintro ⟨HS, Hr⟩
    isplitl [HS]
    · iexists _; iexact HS
    iexact Hr

/-- The proof data of the second call, its arrays at `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 (iblk1 V c 0 t) (iblk1 V c 1 t) (iblk1 V c 2 t) (iblk1 V c 3 t) (iblk1 V c 4 t) (iblk1 V c 5 t) (iblk1 V c 6 t) (iblk1 V c 7 t) (hIn V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; exact Pipeline.Dat.Φ_castSucc (PhiS1 V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 (iblk1 V c 0 t) (iblk1 V c 1 t) (iblk1 V c 2 t) (iblk1 V c 3 t) (iblk1 V c 4 t) (iblk1 V c 5 t) (iblk1 V c 6 t) (iblk1 V c 7 t) (hIn V c t.val t.isLt) := by dsimp only [dat1]

/-- An input's current buffer holds its block, whether or not the point fetched it. -/
theorem before1_in (c : Dev nD) (w : Fin cfg1.W) (hw : (cfg1.win w).isOut = false) (hidle : ∀ i, cfg1.idle w i = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat1 V c).after w t) = iblk1 V c w t)
    (t : Fin cfg1.N) (d) : (dat1 V c).before w t d = (dat1 V c).fetched w t d :=
  (dat1 V c).before_in_eq_fetched w hw hidle hclip
    (fun t => by rw [hkeep]; unfold Dat.blockOf iblk1; rw [A_eq1]) t d
theorem before1_0 (c : Dev nD) (t : Fin cfg1.N) (d) : (dat1 V c).before 0 t d = iblk1 V c 0 t :=
  (before1_in V c 0 rfl (fun _ => rfl) (fun _ _ _ => rfl) (fun t => by rw [after1_0]; try rfl) t d).trans
    (by unfold Dat.fetched Dat.blockOf iblk1; rw [A_eq1]; try rfl)
theorem before1_1 (c : Dev nD) (t : Fin cfg1.N) (d) : (dat1 V c).before 1 t d = iblk1 V c 1 t :=
  (before1_in V c 1 rfl (fun _ => rfl) (fun _ _ _ => rfl) (fun t => by rw [after1_1]; try rfl) t d).trans
    (by unfold Dat.fetched Dat.blockOf iblk1; rw [A_eq1]; try rfl)
theorem before1_2 (c : Dev nD) (t : Fin cfg1.N) (d) : (dat1 V c).before 2 t d = iblk1 V c 2 t :=
  (before1_in V c 2 rfl (fun _ => rfl) (fun _ _ _ => rfl) (fun t => by rw [after1_2]; try rfl) t d).trans
    (by unfold Dat.fetched Dat.blockOf iblk1; rw [A_eq1]; try rfl)
theorem before1_3 (c : Dev nD) (t : Fin cfg1.N) (d) : (dat1 V c).before 3 t d = iblk1 V c 3 t :=
  (before1_in V c 3 rfl (fun _ => rfl) (fun _ _ _ => rfl) (fun t => by rw [after1_3]; try rfl) t d).trans
    (by unfold Dat.fetched Dat.blockOf iblk1; rw [A_eq1]; try rfl)
theorem before1_4 (c : Dev nD) (t : Fin cfg1.N) (d) : (dat1 V c).before 4 t d = iblk1 V c 4 t :=
  (before1_in V c 4 rfl (fun _ => rfl) (fun _ _ _ => rfl) (fun t => by rw [after1_4]; try rfl) t d).trans
    (by unfold Dat.fetched Dat.blockOf iblk1; rw [A_eq1]; try rfl)
theorem before1_5 (c : Dev nD) (t : Fin cfg1.N) (d) : (dat1 V c).before 5 t d = iblk1 V c 5 t :=
  (before1_in V c 5 rfl (fun _ => rfl) (fun _ _ _ => rfl) (fun t => by rw [after1_5]; try rfl) t d).trans
    (by unfold Dat.fetched Dat.blockOf iblk1; rw [A_eq1]; try rfl)
theorem before1_6 (c : Dev nD) (t : Fin cfg1.N) (d) : (dat1 V c).before 6 t d = iblk1 V c 6 t :=
  (before1_in V c 6 rfl (fun _ => rfl) (fun _ _ _ => rfl) (fun t => by rw [after1_6]; try rfl) t d).trans
    (by unfold Dat.fetched Dat.blockOf iblk1; rw [A_eq1]; try rfl)
theorem before1_7 (c : Dev nD) (t : Fin cfg1.N) (d) : (dat1 V c).before 7 t d = iblk1 V c 7 t :=
  (before1_in V c 7 rfl (fun _ => rfl) (fun _ _ _ => rfl) (fun t => by rw [after1_7]; try rfl) t d).trans
    (by unfold Dat.fetched Dat.blockOf iblk1; rw [A_eq1]; try rfl)

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 2000000 in
/-- The body at any point: from the staged blocks to the contents the proof data names. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    show (dat1 V c).Φ t.succ = PhiS1 V c (t.val + 1) t.isLt from rfl, PhiS1_succ, PhiS1_castSucc,
    after1_0, after1_1, after1_2, after1_3, after1_4, after1_5, after1_6, after1_7, after1_8]
  by_cases h0 : t.val % 4 = 0
  · refine (Laws.sep_mono (PhiS1_any V c _ _) .rfl).trans ?_
    unfold hAt; rw [hIn_first V c t h0]
    iintro ⟨⟨HS, ⟨HY, HB⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body1_first c (grid1.coords t) _ _ _ _ _ _ _ _ _ _ _ _ _ _ _ _ _ _ _ _ _ _ _ _ ((first1_iff t).mpr h0) (iblk1 V c 0 t) (iblk1 V c 1 t) (iblk1 V c 2 t) (iblk1 V c 3 t) (iblk1 V c 4 t) (iblk1 V c 5 t) (iblk1 V c 6 t) (iblk1 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    isplitl [HY]; · iexact HY
    isplitl [HB]; · iexact HB
    iintro ⟨H0, H1, H2, H3, H4, H5, H6, H7, H8, HS, HY, HB⟩
    isplitl [HS HY HB HR]
    · isplitl [HS]; · iexact HS
      isplitl [HY HB]
      · isplitl [HY]; · iexact HY
        iexact HB
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS1_pos V c _ _ (by omega), show hAt V c t.val t.isLt = hOut1 (iblk1 V c 0 t) (iblk1 V c 1 t) (iblk1 V c 3 t) (iblk1 V c 5 t) (hIn V c t.val t.isLt) from rfl, hIn_next V c t h0]
    iintro ⟨⟨HS, ⟨HY, HB⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body1_next c (grid1.coords t) _ _ _ _ _ _ _ _ _ _ _ _ _ _ _ _ _ _ _ _ _ _ _ _ (fun h => h0 ((first1_iff t).mp h)) (iblk1 V c 0 t) (iblk1 V c 1 t) (iblk1 V c 2 t) (iblk1 V c 3 t) (iblk1 V c 4 t) (iblk1 V c 5 t) (iblk1 V c 6 t) (iblk1 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    isplitl [HY]; · iexact HY
    isplitl [HB]; · iexact HB
    iintro ⟨H0, H1, H2, H3, H4, H5, H6, H7, H8, HS, HY, HB⟩
    isplitl [HS HY HB HR]
    · isplitl [HS]; · iexact HS
      isplitl [HY HB]
      · isplitl [HY]; · iexact HY
        iexact HB
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point is the body there. -/
theorem defs₀_row1 (t : Fin cfg1.N) : defs₀ (F := F) .tc cfg1.body (cfg1.bodyArgs t (cfg1.slots t)) = bodyAt1 t := by
  unfold defs₀; rw [Defs.onTc_tc]

/-- The body obligation of the region. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The resources the region starts from are its invariant before the first point, -/
theorem Phi1_in (c : Dev nD) : (dat1 V c).Φ 0 = (Pipeline.ΦA spec1 c : sProp 𝕄) := rfl

/-- and its invariant after the last point gives them back. -/
theorem Phi1_out (c : Dev nD) : (dat1 V c).Φ (Fin.last cfg1.N) ⊢ (Pipeline.ΦA spec1 c : sProp 𝕄) := by
  refine BIBase.Entails.trans (PhiS1_any V c cfg1.N (le_refl _)) ?_
  rw [PhiA1_eq]
  iintro ⟨HS, ⟨HY, HB⟩, Hr, Hg⟩
  isplitl [HS HY HB Hr]
  · isplitl [HS HY HB]
    · isplitl [HS]; · iexact HS
      isplitl [HY]; · iexact HY
      iexact HB
    iexact Hr
  iexact Hg

end Cert.KernelIdeal.Run

end
-- ==== Proof.KernelIdeal.Run.lean ====
/-
  The run of the whole program: the host operations, the first call, the second call, chained over the contents of
  every buffer at each boundary.
-/
module

public import proofs.«01_k».proof.Proof.KernelIdeal.Region0
public import proofs.«01_k».proof.Proof.KernelIdeal.Region1
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_out (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main terminates without a fault, and at
    the end every unscoped buffer holds the last boundary's contents and every counter is zero. -/
theorem run_all : θ_run defs (onTc (τ := τ) (main (F := F))) ⟨m, fun _ => 0, ρ⟩ (fun r =>
      (∀ c : Dev nD, ∀ b ∈ Pipeline.ucRefs τ sig, r.2.mem ((c : Thread nD τ).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => by
    have e : ∀ a ∈ argRefs, r.2.mem ((c.tc : Thread nD τ).loc a) = m ((c.tc : Thread nD τ).loc a) := fun a ha =>
      (h.1 c _ (mem_uc a ((by decide : ∀ a ∈ argRefs, ¬ (Proc.devRef .tc a : DevRef τ sig).isScoped) a ha))).trans (W3_args m ρ c a ha)
    exact ⟨e main_arg0 (by decide), e main_arg1 (by decide), e main_arg2 (by decide), e main_arg3 (by decide), e main_arg4 (by decide), e main_arg5 (by decide), e main_arg6 (by decide), e main_arg7 (by decide), e main_arg8 (by decide), e main_arg9 (by decide)⟩, h.2⟩) (run_all m ρ)

/-- The result at the end: what the second call's write-backs leave. -/
theorem result : θ_run defs (onTc (τ := τ) (main (F := F))) ⟨m, fun _ => 0, ρ⟩ (fun r => ∀ c : Dev nD,
      r.2.mem ((c.tc : Thread nD τ).loc main_v6) = (dat1 (V2 m ρ) c).arrAt 8 cfg1.N) :=
  (θ_run defs _ _).mono (fun r h c => (h.1 c _ (mem_uc main_v6 (by decide))).trans (W3_arr m ρ c 8)) (run_all m ρ)

end Cert.KernelIdeal.Run

end
-- ==== Proof.Reference.Frame.lean ====
/-
  The reference's run: no operation of it writes an argument, before its loop, in it or after it, so every argument ends
  as it began; and two values the operations after the loop read, the gate's half of the first product and the
  convolution's output, pass through the loop unchanged.
-/
module

public import proofs.«01_k».proof.Defs
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem Idealize.ShloMosaic.StableHlo

namespace Cert.ReferenceIdeal.Ends

open Cert.ReferenceIdeal Cert.ReferenceIdeal.Gen Cert.ReferenceIdeal.Value

variable {F : FTy → Type} [FloatOps F]

/-- The ten arguments. -/
abbrev argRefs : List (Ref sig .tc) :=
  [main_arg0, main_arg1, main_arg2, main_arg3, main_arg4, main_arg5, main_arg6, main_arg7, main_arg8, main_arg9]

/-- The arguments and the two values that pass through the loop. -/
abbrev keptRefs : List (Ref sig .tc) := main_v2 :: main_v36 :: argRefs

/-- What the stretches after the loop write. -/
abbrev post7_W : List (Ref sig .tc) := [main_v68, main_v69, main_v70, main_v71, main_v72]
abbrev post8_W : List (Ref sig .tc) :=
  [main_call7_v0, main_call7_v1, main_call7_cst, main_call7_v2, main_call7_v3, main_call7_cst_0, main_call7_v4,
    main_call7_v5, main_v73]
abbrev post9_W : List (Ref sig .tc) := [main_v74, main_v75]
theorem post7_writes : (hostOps0_7 : List (HloOp τ sig (Elt F))).Forall fun op =>
    op.writes ⊆ (post7_W.map (Proc.devRef (τ := τ) .tc)).toFinset := StableHlo.forall_writes_sub_of_map rfl
theorem post8_writes : (hostOps0_8 : List (HloOp τ sig (Elt F))).Forall fun op =>
    op.writes ⊆ (post8_W.map (Proc.devRef (τ := τ) .tc)).toFinset := StableHlo.forall_writes_sub_of_map rfl
theorem post9_writes : (hostOps0_9 : List (HloOp τ sig (Elt F))).Forall fun op =>
    op.writes ⊆ (post9_W.map (Proc.devRef (τ := τ) .tc)).toFinset := StableHlo.forall_writes_sub_of_map rfl

/-- A value in none of the lists a stretch writes. -/
theorem not_mem_of {l W : List (Ref sig .tc)} (h : ∀ a ∈ l, a ∉ W) {b : Ref sig .tc} (hb : b ∈ l) : b ∉ W := h b hb

/-- An argument is as launched when the loop is entered. -/
theorem entry_arg (m : (ℓ : Loc nD τ sig) → Buf (Elt F) ℓ) (c : Dev nD) {b : Ref sig .tc} (hb : b ∈ argRefs) :
    entryContents preI m c (Proc.devRef .tc b) = m ((c.tc : Thread nD τ).loc b) := by
  simp only [entryContents, afterL_cons, afterL_nil]
  rw [after_of_writes_sub hostOps0_6 _ hostOps0_6_writes (not_mem_of (l := argRefs) (by decide +kernel) hb),
    after_of_writes_sub hostOps0_5 _ hostOps0_5_writes (not_mem_of (l := argRefs) (by decide +kernel) hb),
    after_of_writes_sub hostOps0_4 _ hostOps0_4_writes (not_mem_of (l := argRefs) (by decide +kernel) hb),
    after_of_writes_sub hostOps0_3 _ hostOps0_3_writes (not_mem_of (l := argRefs) (by decide +kernel) hb),
    after_of_writes_sub hostOps0_2 _ hostOps0_2_writes (not_mem_of (l := argRefs) (by decide +kernel) hb),
    after_of_writes_sub hostOps0_1 _ hostOps0_1_writes (not_mem_of (l := argRefs) (by decide +kernel) hb),
    after_of_writes_sub hostOps0 _ hostOps0_writes (not_mem_of (l := argRefs) (by decide +kernel) hb)]

/-- One trip changes none of the kept values. -/
theorem trip_kept (V : Valuation τ sig (Elt F)) {b : Ref sig .tc} (hb : b ∈ keptRefs) :
    afterL bodyI (after condOps V) (Proc.devRef .tc b) = V (Proc.devRef .tc b) := by
  simp only [afterL_cons, afterL_nil]
  rw [after_of_writes_sub while0Ops0_5 _ while0Ops0_5_writes (not_mem_of (l := keptRefs) (by decide +kernel) hb),
    after_of_writes_sub while0Ops0_4 _ while0Ops0_4_writes (not_mem_of (l := keptRefs) (by decide +kernel) hb),
    after_of_writes_sub while0Ops0_3 _ while0Ops0_3_writes (not_mem_of (l := keptRefs) (by decide +kernel) hb),
    after_of_writes_sub while0Ops0_2 _ while0Ops0_2_writes (not_mem_of (l := keptRefs) (by decide +kernel) hb),
    after_of_writes_sub while0Ops0_1 _ while0Ops0_1_writes (not_mem_of (l := keptRefs) (by decide +kernel) hb),
    after_of_writes_sub while0Ops0 _ while0Ops0_writes (not_mem_of (l := keptRefs) (by decide +kernel) hb),
    after_of_writes_sub condOps _ condOps_writes (not_mem_of (l := keptRefs) (by decide +kernel) hb)]

/-- Nor do any number of trips. -/
theorem atK_kept (m : (ℓ : Loc nD τ sig) → Buf (Elt F) ℓ) (c : Dev nD) {b : Ref sig .tc} (hb : b ∈ keptRefs) :
    ∀ k, atK m k c (Proc.devRef .tc b) = entryContents preI m c (Proc.devRef .tc b)
  | 0 => rfl
  | k + 1 => (trip_kept (atK m k c) hb).trans (atK_kept m c hb k)

/-- The contents at the end are the stretches after the loop, run from what the loop's last test leaves. -/
theorem final_eq (m : (ℓ : Loc nD τ sig) → Buf (Elt F) ℓ) (c : Dev nD) (n : ℕ) :
    finalContents condOps preI bodyI postI n m c
      = after hostOps0_9 (after hostOps0_8 (after hostOps0_7 (after condOps (atK m n c)))) := by
  simp only [finalContents, afterL_cons, afterL_nil]

/-- An argument ends as launched. -/
theorem final_arg (m : (ℓ : Loc nD τ sig) → Buf (Elt F) ℓ) (c : Dev nD) {b : Ref sig .tc} (hb : b ∈ argRefs) :
    finalContents condOps preI bodyI postI 1024 m c (Proc.devRef .tc b) = m ((c.tc : Thread nD τ).loc b) := by
  rw [final_eq,
    after_of_writes_sub hostOps0_9 _ post9_writes (not_mem_of (l := argRefs) (by decide +kernel) hb),
    after_of_writes_sub hostOps0_8 _ post8_writes (not_mem_of (l := argRefs) (by decide +kernel) hb),
    after_of_writes_sub hostOps0_7 _ post7_writes (not_mem_of (l := argRefs) (by decide +kernel) hb),
    after_of_writes_sub condOps _ condOps_writes (not_mem_of (l := argRefs) (by decide +kernel) hb),
    atK_kept m c (List.mem_cons_of_mem _ (List.mem_cons_of_mem _ hb)), entry_arg m c hb]

/-- What the reference's result ends at. -/
def result (m : (ℓ : Loc nD τ sig) → Buf (Elt F) ℓ) (c : Dev nD) : Buf (Elt F) ((c.tc : Thread nD τ).loc main_v75) :=
  finalContents condOps preI bodyI postI 1024 m c (Proc.devRef .tc main_v75)

/-- The run: the result at `result`, every argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v75) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run _ _ _).mono (fun r h c => ?_) (run_fold m ρ)
  have ha : ∀ b ∈ argRefs, (Proc.devRef .tc b : DevRef τ sig).isScoped = false →
      r.2.mem ((c.tc : Thread nD τ).loc b) = m ((c.tc : Thread nD τ).loc b) :=
    fun b hb hs => (h c b hs).trans (final_arg m c hb)
  exact ⟨h c main_v75 rfl, ha _ (by decide) rfl, ha _ (by decide) rfl, ha _ (by decide) rfl, ha _ (by decide) rfl,
    ha _ (by decide) rfl, ha _ (by decide) rfl, ha _ (by decide) rfl, ha _ (by decide) rfl, ha _ (by decide) rfl,
    ha _ (by decide) rfl⟩

/-- The reference ends with its arguments unchanged and its counters at zero: it has none. -/
theorem frame [hf : Cert.ReferenceIdeal.Facts] : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (run (F := Ideal) m ρ)

end Cert.ReferenceIdeal.Ends

end
-- ==== Proof.Value.Spec.lean ====
/-
  The block's mathematics over the extended reals, index by index: what both programs are proved to compute. The ten
  arguments are the fields of `Args`; `proj` is the input projection, `conv` the causal convolution, `xc` the activation,
  `dbl` the projection to (dt, B, C), `dt` the step, `hs` the scan's state, `y` its output, `out` the block's result.
-/
module

public import Idealize.ShloMosaic.PureOps.Ideal
public import Idealize.ShloMosaic.PureOps.IdealRules
public import Idealize.ShloMosaic.Lib.IdealHost

@[expose] public section

noncomputable section

namespace Cert.Mamba

open Idealize.ShloMosaic

/-- The ten arguments, at their indices. -/
structure Args where
  x : Fin 2 → Fin 1024 → Fin 1024 → EReal
  win : Fin 4096 → Fin 1024 → EReal
  cw : Fin 2048 → Fin 4 → EReal
  cb : Fin 2048 → EReal
  xp : Fin 96 → Fin 2048 → EReal
  dw : Fin 2048 → Fin 64 → EReal
  db : Fin 2048 → EReal
  al : Fin 2048 → Fin 16 → EReal
  dv : Fin 2048 → EReal
  wo : Fin 1024 → Fin 2048 → EReal

/-- `x · logistic x`. -/
def silu (x : EReal) : EReal := x * Ideal.logistic x

/-- `log (1 + exp x)`, in the form that does not overflow. -/
def softplus (x : EReal) : EReal := max x 0 + Ideal.log1p (Ideal.exp (-(max x (-x))))

/-- The recurrence `r ↦ r · g k + u k` from `h`, before step `k`. -/
def lin (g u : ℕ → EReal) (h : EReal) : ℕ → EReal
  | 0 => h
  | k + 1 => lin g u h k * g k + u k

/-- The recurrence run for `m` steps and then for `k` more. -/
theorem lin_add (g u : ℕ → EReal) (h : EReal) (m k : ℕ) :
    lin g u h (m + k) = lin (fun j => g (m + j)) (fun j => u (m + j)) (lin g u h m) k := by
  induction k with
  | zero => rfl
  | succ k ih => rw [← Nat.add_assoc, lin, ih, lin]

/-- It depends only on the steps made. -/
theorem lin_congr {g g' u u' : ℕ → EReal} {h h' : EReal} (n : ℕ) (hh : h = h') (hg : ∀ k < n, g k = g' k) (hu : ∀ k < n, u k = u' k) :
    lin g u h n = lin g' u' h' n := by
  induction n with
  | zero => exact hh
  | succ n ih =>
    rw [lin, lin, ih (fun k hk => hg k (by omega)) (fun k hk => hu k (by omega)), hg n (by omega), hu n (by omega)]

namespace Args

variable (a : Args)

def proj (b : Fin 2) (t : Fin 1024) (f : Fin 4096) : EReal := ∑ d, a.x b t d * a.win f d

/-- The first half of the projection's columns, `s` rows back, zero before the first row. -/
def back (s : ℕ) (b : Fin 2) (t : Fin 1024) (e : Fin 2048) : EReal :=
  if s ≤ t.val then a.proj b ⟨t.val - s, by omega⟩ ⟨e.val, by omega⟩ else 0

def conv (b : Fin 2) (t : Fin 1024) (e : Fin 2048) : EReal :=
  a.cw e 0 * a.back 3 b t e + a.cw e 1 * a.back 2 b t e + a.cw e 2 * a.back 1 b t e + a.cw e 3 * a.back 0 b t e + a.cb e

def xc (b : Fin 2) (t : Fin 1024) (e : Fin 2048) : EReal := silu (a.conv b t e)

def dbl (b : Fin 2) (t : Fin 1024) (r : Fin 96) : EReal := ∑ e, a.xc b t e * a.xp r e

def dt (b : Fin 2) (t : Fin 1024) (e : Fin 2048) : EReal :=
  softplus ((∑ r : Fin 64, a.dbl b t ⟨r.val, by omega⟩ * a.dw e r) + a.db e)

def bb (b : Fin 2) (t : Fin 1024) (n : Fin 16) : EReal := a.dbl b t ⟨64 + n.val, by omega⟩

def cc (b : Fin 2) (t : Fin 1024) (n : Fin 16) : EReal := a.dbl b t ⟨80 + n.val, by omega⟩

/-- Row `k`, as a number. -/
def tm (k : ℕ) : Fin 1024 := ⟨k % 1024, Nat.mod_lt _ (by decide)⟩

/-- The factor a row decays the state by, and what it adds. -/
def decay (b : Fin 2) (e : Fin 2048) (n : Fin 16) (k : ℕ) : EReal := Ideal.exp (a.dt b (tm k) e * -(Ideal.exp (a.al e n)))
def drive (b : Fin 2) (e : Fin 2048) (n : Fin 16) (k : ℕ) : EReal := a.dt b (tm k) e * a.bb b (tm k) n * a.xc b (tm k) e

/-- The state before row `k`. -/
def hs (b : Fin 2) (e : Fin 2048) (n : Fin 16) (k : ℕ) : EReal := lin (a.decay b e n) (a.drive b e n) 0 k

def y (b : Fin 2) (t : Fin 1024) (e : Fin 2048) : EReal := ∑ n, a.hs b e n (t.val + 1) * a.cc b t n

def gated (b : Fin 2) (t : Fin 1024) (e : Fin 2048) : EReal :=
  (a.y b t e + a.xc b t e * a.dv e) * silu (a.proj b t ⟨2048 + e.val, by omega⟩)

def out (b : Fin 2) (t : Fin 1024) (d : Fin 1024) : EReal := ∑ e, a.gated b t e * a.wo d e

end Args

/-! ## Scalars -/

/-- `exp2` of a multiple of `1 / log 2` is `exp`. -/
theorem exp2_mul_log2e (x : EReal) : Ideal.exp2 (x * (((Real.log 2)⁻¹ : ℝ) : EReal)) = Ideal.exp x := by
  have hp : (0 : ℝ) < (Real.log 2)⁻¹ := inv_pos.mpr (Real.log_pos (by norm_num))
  induction x using EReal.rec with
  | bot => rw [EReal.bot_mul_coe_of_pos hp]; simp
  | top => rw [EReal.top_mul_coe_of_pos hp]; simp
  | coe r =>
    rw [← EReal.coe_mul, Ideal.exp2_coe, Ideal.exp_coe]
    congr 1
    show Real.rpow 2 (r * (Real.log 2)⁻¹) = _
    have h2 : Real.log 2 ≠ 0 := (Real.log_pos (by norm_num)).ne'
    rw [show Real.rpow 2 (r * (Real.log 2)⁻¹) = (2 : ℝ) ^ (r * (Real.log 2)⁻¹) from rfl, Real.rpow_def_of_pos (by norm_num)]
    congr 1
    field_simp

/-- The decay, as it is written with `exp2` and the factors in the other order. -/
theorem exp2_decay (x d : EReal) :
    Ideal.exp2 ((0 - x) * (((Real.log 2)⁻¹ : ℝ) : EReal) * d) = Ideal.exp (d * -x) := by
  rw [mul_right_comm, exp2_mul_log2e, zero_sub, mul_comm]

/-- The softplus written with `0 - |x|` and `log (1 + ·)`. -/
theorem softplus_kernel (x : EReal) :
    max x 0 + Ideal.log (1 + Ideal.exp (0 - max x (-x))) = softplus x := by
  rw [zero_sub]; rfl

end Cert.Mamba
-- ==== Proof.Value.Block0.lean ====
/-
  What the first kernel's body computes at one grid point, at an index.
-/
module

public import proofs.«01_k».proof.Proof.KernelIdeal.Body0
public import proofs.«01_k».proof.Proof.Value.Spec
public import Idealize.ShloMosaic.Lib.Pointwise
public import Idealize.ShloMosaic.Lib.Pipeline.ValueKit

@[expose] public section

set_option maxRecDepth 16384

noncomputable section

namespace Cert.KernelIdeal.AtIndex

open Idealize.ShloMosaic Idealize.ShloMosaic.TcCoe
open Cert.KernelIdeal.Gen Cert.KernelIdeal.Run Cert.Mamba

section Block0

variable (x2 : Vec Ideal S1x1024x1024 .f32) (x3 x4 : Vec Ideal S512x1024 .f32) (x5 : Vec Ideal S4x512 .f32)
  (x6 : Vec Ideal S1x512 .f32) (x7 : Vec Ideal S96x512 .f32) (d : Vec Ideal S1024x96 .f32)

/-- A column of the projection, and the same `s` rows back. -/
def pB (w : Vec Ideal S512x1024 .f32) (t : Fin 1024) (l : Fin 512) : EReal := ∑ k : Fin 1024, (x2 (ix3 0 t k) * w (ix2 l k) : EReal)
def backB (s : ℕ) (t : Fin 1024) (l : Fin 512) : EReal := if s ≤ t.val then pB x2 x3 ⟨t.val - s, by omega⟩ l else 0

/-- The convolved and activated channel. -/
def xB (t : Fin 1024) (l : Fin 512) : EReal :=
  silu (x5 (ix2 0 l) * backB x2 x3 3 t l + x5 (ix2 1 l) * backB x2 x3 2 t l + x5 (ix2 2 l) * backB x2 x3 1 t l
    + x5 (ix2 3 l) * backB x2 x3 0 t l + x6 (ix2 0 l))

theorem zsOut_at (t : Fin 1024) (l : Fin 512) : zsOut x2 x4 (ix3 0 t l) = silu (pB x2 x4 t l) := by
  unfold zsOut
  pointwise [k0_pay3, k0_pay12, k0_pay10]
  rfl

theorem wrow_at (q : Fin 4) (hq) (l : Fin 512) :
    rd x5 (Rect.unit (s := S4x512) ![q.val, 0] ![1, 512] hq) (ix2 0 l) = x5 (ix2 q l) :=
  congrArg x5 (funext fun a => Fin.ext (by rw [LoadRect.idx_apply]; fin_cases a <;> simp))

theorem backB_eq (s : ℕ) (t : Fin 1024) (l : Fin 512) :
    backB x2 x3 s t l = if h : t.val < s then 0 else ∑ k : Fin 1024, (x2 (ix3 0 ⟨t.val - s, by omega⟩ k) * x3 (ix2 l k) : EReal) := by
  unfold backB pB
  by_cases h : t.val < s
  · rw [dif_pos h, if_neg (by omega)]
  · rw [dif_neg h, if_pos (by omega)]

theorem conv_at (t : Fin 1024) (l : Fin 512) :
    k0_pay1 (k0_pay13 x2 x3 (wrow3 x5) x6 (wrow0 x5) (wrow1 x5)) (k0_pay14 x2 x3) (wrow2 x5) (ix2 t l) = xB x2 x3 x5 x6 t l := by
  have e0 : rd x5 (Rect.unit (s := S4x512) ![0, 0] ![1, 512] inb_S4x512_S1x512_0_0) (ix2 0 l) = x5 (ix2 0 l) := wrow_at x5 0 _ l
  have e1 : rd x5 (Rect.unit (s := S4x512) ![1, 0] ![1, 512] inb_S4x512_S1x512_1_0) (ix2 0 l) = x5 (ix2 1 l) := wrow_at x5 1 _ l
  have e2 : rd x5 (Rect.unit (s := S4x512) ![2, 0] ![1, 512] inb_S4x512_S1x512_2_0) (ix2 0 l) = x5 (ix2 2 l) := wrow_at x5 2 _ l
  have e3 : rd x5 (Rect.unit (s := S4x512) ![3, 0] ![1, 512] inb_S4x512_S1x512_3_0) (ix2 0 l) = x5 (ix2 3 l) := wrow_at x5 3 _ l
  unfold wrow0 wrow1 wrow2 wrow3
  pointwise [k0_pay1, k0_pay13, k0_pay14, k0_pay11, k0_pay10]
  rw [e0, e1, e2, e3]
  show silu _ = silu _
  rw [backB_eq x2 x3 3, backB_eq x2 x3 2, backB_eq x2 x3 1, backB_eq x2 x3 0, dif_neg (Nat.not_lt_zero _)]
  refine congrArg silu ?_
  simp only [Nat.sub_zero]
  ac_rfl

theorem xcOut_at (t : Fin 1024) (l : Fin 512) : xcOut x2 x3 x5 x6 (ix3 0 t l) = xB x2 x3 x5 x6 t l := by
  rw [← conv_at]
  unfold xcOut
  pointwise [k0_pay2]

/-- A block's summand of the projection to (dt, B, C). -/
def partB (t : Fin 1024) (r : Fin 96) : EReal := ∑ l : Fin 512, (xB x2 x3 x5 x6 t l * x7 (ix2 r l) : EReal)

theorem part_at (t : Fin 1024) (r : Fin 96) :
    k0_pay4 (k0_pay13 x2 x3 (wrow3 x5) x6 (wrow0 x5) (wrow1 x5)) (k0_pay14 x2 x3) (wrow2 x5) x7 (ix2 t r) = partB x2 x3 x5 x6 x7 t r := by
  unfold partB
  simp only [← conv_at]
  pointwise [k0_pay4]

theorem dblFirst_at (t : Fin 1024) (r : Fin 96) : dblFirst x2 x3 x5 x6 x7 (ix2 t r) = partB x2 x3 x5 x6 x7 t r := by
  rw [← part_at]
  unfold dblFirst
  pointwise [k0_pay5]

theorem dblNext_at (t : Fin 1024) (r : Fin 96) :
    dblNext x2 x3 x5 x6 x7 d (ix2 t r) = d (ix2 t r) + partB x2 x3 x5 x6 x7 t r := by
  rw [← part_at]
  unfold dblNext
  pointwise [k0_pay6]

theorem pay9_at (t : Fin 1024) (q : Fin 8) (n : Fin 16) :
    k0_pay9 d (ix3 0 t ⟨q.val * 16 + n.val, by omega⟩) = if q.val = t.val % 8 then d (ix2 t ⟨80 + n.val, by omega⟩) else (0 : EReal) := by
  pointwise [k0_pay9]
  by_cases h : q.val = t.val % 8
  · have e : (q.val * 16 + n.val + 128 - 16 * t.val % 128) % 128 = n.val := by omega
    rw [if_pos h, dif_pos (by omega)]
    simp only [e]
  · rw [if_neg h, dif_neg (by omega)]

theorem pay8_at (t : Fin 1024) (n : Fin 16) : k0_pay8 d (ix3 0 t n) = d (ix2 t ⟨64 + n.val, by omega⟩) := by
  pointwise [k0_pay8]

theorem pay7_at (x8 : Vec Ideal S2048x64 .f32) (x9 : Vec Ideal S1x2048 .f32) (t : Fin 1024) (e : Fin 2048) :
    k0_pay7 d x8 x9 (ix3 0 t e) = softplus ((∑ r : Fin 64, (d (ix2 t ⟨r.val, by omega⟩) * x8 (ix2 e r) : EReal)) + x9 (ix2 0 e)) := by
  pointwise [k0_pay7]
  rw [← softplus_kernel]
  rfl

end Block0

end Cert.KernelIdeal.AtIndex

end
-- ==== Proof.Value.Array0.lean ====
/-
  What the first kernel leaves in its five output arrays, at an index.
-/
module

public import proofs.«01_k».proof.Proof.KernelIdeal.Run
public import proofs.«01_k».proof.Proof.Value.Block0
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.AtIndex

open Idealize.ShloMosaic Idealize.ShloMosaic.TcCoe Idealize.ShloMosaic.StableHlo
open Cert.KernelIdeal Cert.KernelIdeal.Gen Cert.KernelIdeal.Run Cert.Mamba

variable (m : (ℓ : Loc nD τ sig) → Buf (Elt Ideal) ℓ) (ρ : Dev nD → PrngReg) (c : Dev nD)

/-- The ten arguments in a memory. -/
def args : Args where
  x b t d := m ((c : Thread nD τ).loc main_arg0) (ix3 b t d)
  win f d := m ((c : Thread nD τ).loc main_arg1) (ix2 f d)
  cw e k := m ((c : Thread nD τ).loc main_arg2) (ix2 e k)
  cb e := m ((c : Thread nD τ).loc main_arg3) (ix1 e)
  xp r e := m ((c : Thread nD τ).loc main_arg4) (ix2 r e)
  dw e r := m ((c : Thread nD τ).loc main_arg5) (ix2 e r)
  db e := m ((c : Thread nD τ).loc main_arg6) (ix1 e)
  al e n := m ((c : Thread nD τ).loc main_arg7) (ix2 e n)
  dv e := m ((c : Thread nD τ).loc main_arg8) (ix1 e)
  wo d e := m ((c : Thread nD τ).loc main_arg9) (ix2 d e)

/-! ## The host operations before the first call -/

theorem V1_v0 (k : Fin 4) (e : Fin 2048) : V1 m ρ c main_v0 (ix2 k e) = (args m c).cw e k := by
  show after hostOps0 (W0 m ρ c) main_v0 (ix2 k e) = _
  after_reads_at
  rfl
theorem V1_v1 (n : Fin 16) (e : Fin 2048) : V1 m ρ c main_v1 (ix2 n e) = (args m c).al e n := by
  show after hostOps0 (W0 m ρ c) main_v1 (ix2 n e) = _
  after_reads_at
  rfl
theorem V1_v2 (e : Fin 2048) : V1 m ρ c main_v2 (ix2 0 e) = (args m c).cb e := by
  show after hostOps0 (W0 m ρ c) main_v2 (ix2 0 e) = _
  after_reads_at
  rfl
theorem V1_v3 (e : Fin 2048) : V1 m ρ c main_v3 (ix2 0 e) = (args m c).db e := by
  show after hostOps0 (W0 m ρ c) main_v3 (ix2 0 e) = _
  after_reads_at
  rfl
theorem V1_v4 (e : Fin 2048) : V1 m ρ c main_v4 (ix2 0 e) = (args m c).dv e := by
  show after hostOps0 (W0 m ρ c) main_v4 (ix2 0 e) = _
  after_reads_at
  rfl

/-! ## The blocks a grid point reads -/

/-- A grid point's batch and its block of channels. -/
def bOf (t : Fin cfg0.N) : Fin 2 := ⟨t.val / 4, by have : t.val < 8 := t.isLt; omega⟩
def eOf (t : Fin cfg0.N) (l : Fin 512) : Fin 2048 := ⟨(t.val % 4) * 512 + l.val, by omega⟩

theorem index0_0 : ∀ t : Fin cfg0.N, win0_0.index t = ![t.val / 4, 0, 0] := (by decide +kernel : ∀ t : Fin grid0.N, _)
theorem index0_1 : ∀ t : Fin cfg0.N, win0_1.index t = ![t.val % 4, 0] := (by decide +kernel : ∀ t : Fin grid0.N, _)
theorem index0_2 : ∀ t : Fin cfg0.N, win0_2.index t = ![4 + t.val % 4, 0] := (by decide +kernel : ∀ t : Fin grid0.N, _)
theorem index0_3 : ∀ t : Fin cfg0.N, win0_3.index t = ![0, t.val % 4] := (by decide +kernel : ∀ t : Fin grid0.N, _)
theorem index0_4 : ∀ t : Fin cfg0.N, win0_4.index t = ![0, t.val % 4] := (by decide +kernel : ∀ t : Fin grid0.N, _)
theorem index0_5 : ∀ t : Fin cfg0.N, win0_5.index t = ![0, t.val % 4] := (by decide +kernel : ∀ t : Fin grid0.N, _)
theorem index0_6 : ∀ t : Fin cfg0.N, win0_6.index t = ![0, 0] := (by decide +kernel : ∀ t : Fin grid0.N, _)
theorem index0_7 : ∀ t : Fin cfg0.N, win0_7.index t = ![0, 0] := (by decide +kernel : ∀ t : Fin grid0.N, _)
theorem index0_8 : ∀ t : Fin cfg0.N, win0_8.index t = ![t.val / 4, 0, t.val % 4] := (by decide +kernel : ∀ t : Fin grid0.N, _)
theorem index0_9 : ∀ t : Fin cfg0.N, win0_9.index t = ![t.val / 4, 0, t.val % 4] := (by decide +kernel : ∀ t : Fin grid0.N, _)
theorem index0_10 : ∀ t : Fin cfg0.N, win0_10.index t = ![t.val / 4, 0, 0] := (by decide +kernel : ∀ t : Fin grid0.N, _)
theorem index0_11 : ∀ t : Fin cfg0.N, win0_11.index t = ![t.val / 4, 0, 0] := (by decide +kernel : ∀ t : Fin grid0.N, _)
theorem index0_12 : ∀ t : Fin cfg0.N, win0_12.index t = ![t.val / 4, 0, 0] := (by decide +kernel : ∀ t : Fin grid0.N, _)

theorem iblk0_0 (t : Fin cfg0.N) (s : Fin 1024) (d : Fin 1024) :
    iblk0 (V1 m ρ) c 0 t (ix3 0 s d) = (args m c).x (bOf t) s d := by
  refine Eq.trans ?_ (congrFun (W1_args m ρ c main_arg0 (by decide)) (ix3 (bOf t) s d))
  blk_simp [iblk0]
  refine congrArg (V1 m ρ c main_arg0) ?_
  blk_ext [index0_0, bOf]
theorem iblk0_1 (t : Fin cfg0.N) (l : Fin 512) (d : Fin 1024) :
    iblk0 (V1 m ρ) c 1 t (ix2 l d) = (args m c).win ⟨(eOf t l).val, by omega⟩ d := by
  refine Eq.trans ?_ (congrFun (W1_args m ρ c main_arg1 (by decide)) (ix2 ⟨(eOf t l).val, by omega⟩ d))
  blk_simp [iblk0]
  refine congrArg (V1 m ρ c main_arg1) ?_
  blk_ext [index0_1, eOf]

theorem iblk0_2 (t : Fin cfg0.N) (l : Fin 512) (d : Fin 1024) :
    iblk0 (V1 m ρ) c 2 t (ix2 l d) = (args m c).win ⟨2048 + (eOf t l).val, by omega⟩ d := by
  refine Eq.trans ?_ (congrFun (W1_args m ρ c main_arg1 (by decide)) (ix2 ⟨2048 + (eOf t l).val, by omega⟩ d))
  blk_simp [iblk0]
  refine congrArg (V1 m ρ c main_arg1) ?_
  blk_ext [index0_2, eOf]
theorem iblk0_3 (t : Fin cfg0.N) (k : Fin 4) (l : Fin 512) :
    iblk0 (V1 m ρ) c 3 t (ix2 k l) = (args m c).cw (eOf t l) k := by
  refine Eq.trans ?_ (V1_v0 m ρ c k (eOf t l))
  blk_simp [iblk0]
  refine congrArg (V1 m ρ c main_v0) ?_
  blk_ext [index0_3, eOf]
theorem iblk0_4 (t : Fin cfg0.N) (l : Fin 512) : iblk0 (V1 m ρ) c 4 t (ix2 0 l) = (args m c).cb (eOf t l) := by
  refine Eq.trans ?_ (V1_v2 m ρ c (eOf t l))
  blk_simp [iblk0]
  refine congrArg (V1 m ρ c main_v2) ?_
  blk_ext [index0_4, eOf]
theorem iblk0_5 (t : Fin cfg0.N) (r : Fin 96) (l : Fin 512) :
    iblk0 (V1 m ρ) c 5 t (ix2 r l) = (args m c).xp r (eOf t l) := by
  refine Eq.trans ?_ (congrFun (W1_args m ρ c main_arg4 (by decide)) (ix2 r (eOf t l)))
  blk_simp [iblk0]
  refine congrArg (V1 m ρ c main_arg4) ?_
  blk_ext [index0_5, eOf]
theorem iblk0_6 (t : Fin cfg0.N) (e : Fin 2048) (r : Fin 64) : iblk0 (V1 m ρ) c 6 t (ix2 e r) = (args m c).dw e r := by
  refine Eq.trans ?_ (congrFun (W1_args m ρ c main_arg5 (by decide)) (ix2 e r))
  blk_simp [iblk0]
  refine congrArg (V1 m ρ c main_arg5) ?_
  blk_ext [index0_6]
theorem iblk0_7 (t : Fin cfg0.N) (e : Fin 2048) : iblk0 (V1 m ρ) c 7 t (ix2 0 e) = (args m c).db e := by
  refine Eq.trans ?_ (V1_v3 m ρ c e)
  blk_simp [iblk0]
  refine congrArg (V1 m ρ c main_v3) ?_
  blk_ext [index0_7]

/-! ## What a grid point computes -/

theorem pB_conv (t : Fin cfg0.N) (s : Fin 1024) (l : Fin 512) :
    pB (iblk0 (V1 m ρ) c 0 t) (iblk0 (V1 m ρ) c 1 t) s l = (args m c).proj (bOf t) s ⟨(eOf t l).val, by omega⟩ :=
  Finset.sum_congr (M := EReal) rfl fun d _ => congrArg₂ (fun x y : EReal => x * y) (iblk0_0 m ρ c t s d) (iblk0_1 m ρ c t l d)

theorem pB_gate (t : Fin cfg0.N) (s : Fin 1024) (l : Fin 512) :
    pB (iblk0 (V1 m ρ) c 0 t) (iblk0 (V1 m ρ) c 2 t) s l = (args m c).proj (bOf t) s ⟨2048 + (eOf t l).val, by omega⟩ :=
  Finset.sum_congr (M := EReal) rfl fun d _ => congrArg₂ (fun x y : EReal => x * y) (iblk0_0 m ρ c t s d) (iblk0_2 m ρ c t l d)

theorem backB_eq_back (k : ℕ) (t : Fin cfg0.N) (s : Fin 1024) (l : Fin 512) :
    backB (iblk0 (V1 m ρ) c 0 t) (iblk0 (V1 m ρ) c 1 t) k s l = (args m c).back k (bOf t) s (eOf t l) := by
  unfold backB Args.back
  rw [pB_conv]

theorem xB_eq (t : Fin cfg0.N) (s : Fin 1024) (l : Fin 512) :
    xB (iblk0 (V1 m ρ) c 0 t) (iblk0 (V1 m ρ) c 1 t) (iblk0 (V1 m ρ) c 3 t) (iblk0 (V1 m ρ) c 4 t) s l
      = (args m c).xc (bOf t) s (eOf t l) := by
  unfold xB Args.xc Args.conv
  rw [backB_eq_back, backB_eq_back, backB_eq_back, backB_eq_back, iblk0_3, iblk0_3, iblk0_3, iblk0_3, iblk0_4]

/-- The summand of the projection to (dt, B, C) from the block of channels `j`. -/
def partOf (b s : ℕ) (r : Fin 96) (j : ℕ) : EReal :=
  ∑ l : Fin 512, (args m c).xc ⟨b % 2, Nat.mod_lt _ (by decide)⟩ (Args.tm s) ⟨(j % 4) * 512 + l.val, by omega⟩
    * (args m c).xp r ⟨(j % 4) * 512 + l.val, by omega⟩

theorem partB_eq (t : Fin cfg0.N) (s : Fin 1024) (r : Fin 96) :
    partB (iblk0 (V1 m ρ) c 0 t) (iblk0 (V1 m ρ) c 1 t) (iblk0 (V1 m ρ) c 3 t) (iblk0 (V1 m ρ) c 4 t) (iblk0 (V1 m ρ) c 5 t) s r
      = partOf m c (t.val / 4) s.val r (t.val % 4) := by
  have ht : t.val < 8 := t.isLt
  refine Finset.sum_congr (M := EReal) rfl fun l _ => ?_
  have hb : bOf t = ⟨(t.val / 4) % 2, Nat.mod_lt _ (by decide)⟩ := Fin.ext (by show t.val / 4 = t.val / 4 % 2; omega)
  have hs : Args.tm s.val = s := Fin.ext (Nat.mod_eq_of_lt s.isLt)
  have he : eOf t l = ⟨(t.val % 4 % 4) * 512 + l.val, by omega⟩ := Fin.ext (by show t.val % 4 * 512 + l.val = t.val % 4 % 4 * 512 + l.val; omega)
  rw [xB_eq, iblk0_5, hb, hs, he]

/-- After point `n` the projection's buffer holds the sum over the batch's blocks of channels so far. -/
theorem dblAt_eq (s : Fin 1024) (r : Fin 96) : ∀ (n : ℕ) (h : n < cfg0.N),
    dblAt (V1 m ρ) c n h (ix2 s r) = ∑ j ∈ Finset.range (n % 4 + 1), partOf m c (n / 4) s.val r j := by
  have first : ∀ (t : Fin cfg0.N), t.val % 4 = 0 →
      dblAt (V1 m ρ) c t.val t.isLt (ix2 s r) = ∑ j ∈ Finset.range (t.val % 4 + 1), partOf m c (t.val / 4) s.val r j := by
    intro t h
    rw [dblAt_first _ _ t h, dblFirst_at, partB_eq, h, Finset.sum_range_one]
  intro n
  induction n with
  | zero => exact fun h => first ⟨0, h⟩ rfl
  | succ n ih =>
    intro h
    by_cases h0 : (n + 1) % 4 = 0
    · exact first ⟨n + 1, h⟩ h0
    · have e1 : (n + 1) % 4 = n % 4 + 1 := by omega
      have e2 : (n + 1) / 4 = n / 4 := by omega
      refine (congrFun (dblAt_next (V1 m ρ) c ⟨n + 1, h⟩ h0) (ix2 s r)).trans ?_
      rw [dblNext_at, partB_eq]
      show dblAt (V1 m ρ) c n _ (ix2 s r) + partOf m c ((n + 1) / 4) s.val r ((n + 1) % 4) = _
      rw [ih, e1, e2, Finset.sum_range_succ _ (n % 4 + 1)]

/-- After the batch's last point, the whole projection. -/
theorem dblAt_last (t : Fin cfg0.N) (h : t.val % 4 = 3) (s : Fin 1024) (r : Fin 96) :
    dblAt (V1 m ρ) c t.val t.isLt (ix2 s r) = (args m c).dbl (bOf t) s r := by
  have ht : t.val < 8 := t.isLt
  rw [dblAt_eq, h, Finset.sum_range]
  unfold Args.dbl
  rw [← Fin.sum_mul_add_fin 4 512 (fun e : Fin 2048 => (args m c).xc (bOf t) s e * (args m c).xp r e) rfl]
  refine Finset.sum_congr rfl fun j _ => Finset.sum_congr rfl fun l _ => ?_
  have hb : (⟨(t.val / 4) % 2, Nat.mod_lt _ (by decide)⟩ : Fin 2) = bOf t := Fin.ext (by show t.val / 4 % 2 = t.val / 4; omega)
  have hs : Args.tm s.val = s := Fin.ext (Nat.mod_eq_of_lt s.isLt)
  have he : (⟨(j.val % 4) * 512 + l.val, by omega⟩ : Fin 2048) = ⟨j.val * 512 + l.val, by omega⟩ := Fin.ext (by show j.val % 4 * 512 + l.val = j.val * 512 + l.val; omega)
  rw [hb, hs, he]

/-! ## The five arrays -/

/-- The activated channels, the gate, the step, and the two projections the scan reads; the second of them stands, in a
    row, only at the sixteen columns the row's number picks. -/
def xcArr (i : S2x1024x2048.Idx) : EReal := (args m c).xc (i 0) (i 1) (i 2)
def zsArr (i : S2x1024x2048.Idx) : EReal := silu ((args m c).proj (i 0) (i 1) ⟨2048 + (i 2).val, Nat.add_lt_add_left (i 2).isLt 2048⟩)
def dtArr (i : S2x1024x2048.Idx) : EReal := (args m c).dt (i 0) (i 1) (i 2)
def bbArr (i : S2x1024x16.Idx) : EReal := (args m c).bb (i 0) (i 1) (i 2)
def ccArr (i : S2x1024x128.Idx) : EReal :=
  if (i 2).val / 16 = (i 1).val % 8 then (args m c).cc (i 0) (i 1) ⟨(i 2).val % 16, Nat.mod_lt _ (by decide)⟩ else 0

theorem arr8 : (dat0 (V1 m ρ) c).arrAt 8 cfg0.N = xcArr m c := by
  refine (dat0 (V1 m ρ) c).arrAt_eq_of_covers 8 _ (by decide +kernel) fun t hf y => ?_
  blk_simp
  rw [after0_8]
  idx_vars y
  obtain rfl : y0 = 0 := Subsingleton.elim _ _
  refine ((xcOut_at _ _ _ _ y1 y2).trans (xB_eq m ρ c t y1 y2)).trans ?_
  show xcArr m c (ix3 (bOf t) y1 (eOf t y2)) = _
  refine congrArg (xcArr m c) ?_
  blk_ext [index0_8, bOf, eOf]

theorem arr9 : (dat0 (V1 m ρ) c).arrAt 9 cfg0.N = zsArr m c := by
  refine (dat0 (V1 m ρ) c).arrAt_eq_of_covers 9 _ (by decide +kernel) fun t hf y => ?_
  blk_simp
  rw [after0_9]
  idx_vars y
  obtain rfl : y0 = 0 := Subsingleton.elim _ _
  refine ((zsOut_at _ _ y1 y2).trans (congrArg silu (pB_gate m ρ c t y1 y2))).trans ?_
  show zsArr m c (ix3 (bOf t) y1 (eOf t y2)) = _
  refine congrArg (zsArr m c) ?_
  blk_ext [index0_9, bOf, eOf]

theorem last10 : ∀ t : Fin cfg0.N, (cfg0.win 10).flush t = true → t.val % 4 = 3 := (by decide +kernel : ∀ t : Fin grid0.N, _)
theorem last11 : ∀ t : Fin cfg0.N, (cfg0.win 11).flush t = true → t.val % 4 = 3 := (by decide +kernel : ∀ t : Fin grid0.N, _)
theorem last12 : ∀ t : Fin cfg0.N, (cfg0.win 12).flush t = true → t.val % 4 = 3 := (by decide +kernel : ∀ t : Fin grid0.N, _)

theorem arr10 : (dat0 (V1 m ρ) c).arrAt 10 cfg0.N = dtArr m c := by
  refine (dat0 (V1 m ρ) c).arrAt_eq_of_covers 10 _ (by decide +kernel) fun t hf y => ?_
  have h3 := last10 t hf
  blk_simp
  rw [after0_10]
  idx_vars y
  obtain rfl : y0 = 0 := Subsingleton.elim _ _
  have e : k0_pay7 (dblAt (V1 m ρ) c t.val t.isLt) (iblk0 (V1 m ρ) c 6 t) (iblk0 (V1 m ρ) c 7 t) (ix3 0 y1 y2)
      = (args m c).dt (bOf t) y1 y2 := by
    rw [pay7_at, iblk0_7]
    unfold Args.dt
    refine congrArg (fun x : EReal => softplus (x + _)) (Finset.sum_congr (M := EReal) rfl fun r _ => ?_)
    rw [dblAt_last m ρ c t h3, iblk0_6]
  refine e.trans ?_
  show dtArr m c (ix3 (bOf t) y1 y2) = _
  refine congrArg (dtArr m c) ?_
  blk_ext [index0_10, bOf]

theorem arr11 : (dat0 (V1 m ρ) c).arrAt 11 cfg0.N = bbArr m c := by
  refine (dat0 (V1 m ρ) c).arrAt_eq_of_covers 11 _ (by decide +kernel) fun t hf y => ?_
  have h3 := last11 t hf
  blk_simp
  rw [after0_11]
  idx_vars y
  obtain rfl : y0 = 0 := Subsingleton.elim _ _
  refine ((pay8_at _ y1 y2).trans (dblAt_last m ρ c t h3 y1 _)).trans ?_
  show bbArr m c (ix3 (bOf t) y1 y2) = _
  refine congrArg (bbArr m c) ?_
  blk_ext [index0_11, bOf]

theorem ccArr_at (b : Fin 2) (s : Fin 1024) (q : Fin 8) (n : Fin 16) :
    ccArr m c (ix3 b s ⟨q.val * 16 + n.val, by omega⟩) = if q.val = s.val % 8 then (args m c).cc b s n else 0 := by
  show (if (q.val * 16 + n.val) / 16 = s.val % 8 then (args m c).cc b s ⟨(q.val * 16 + n.val) % 16, _⟩ else 0) = _
  have e1 : (q.val * 16 + n.val) / 16 = q.val := by omega
  have e2 : (⟨(q.val * 16 + n.val) % 16, Nat.mod_lt _ (by decide)⟩ : Fin 16) = n := Fin.ext (by show (q.val * 16 + n.val) % 16 = n.val; omega)
  rw [e1, e2]

theorem arr12 : (dat0 (V1 m ρ) c).arrAt 12 cfg0.N = ccArr m c := by
  refine (dat0 (V1 m ρ) c).arrAt_eq_of_covers 12 _ (by decide +kernel) fun t hf y => ?_
  have h3 := last12 t hf
  blk_simp
  rw [after0_12]
  idx_vars y
  obtain rfl : y0 = 0 := Subsingleton.elim _ _
  obtain ⟨q, n, rfl⟩ : ∃ (q : Fin 8) (n : Fin 16), y2 = ⟨q.val * 16 + n.val, by omega⟩ :=
    ⟨⟨y2.val / 16, by omega⟩, ⟨y2.val % 16, by omega⟩, Fin.ext (by show y2.val = y2.val / 16 * 16 + y2.val % 16; omega)⟩
  refine (pay9_at _ y1 q n).trans ?_
  rw [dblAt_last m ρ c t h3]
  refine (ccArr_at m c (bOf t) y1 q n).symm.trans (congrArg (ccArr m c) ?_)
  blk_ext [index0_12, bOf]

end Cert.KernelIdeal.AtIndex

end
-- ==== Proof.Value.Rows.lean ====
/-
  What one trip of the scan's loop computes, at an index: eight rows of the recurrence, on either half of the columns.
-/
module

public import proofs.«01_k».proof.Proof.KernelIdeal.Scan
public import proofs.«01_k».proof.Proof.Value.Spec
public import Idealize.ShloMosaic.Lib.Pointwise
public import Idealize.ShloMosaic.Lib.Pipeline.ValueKit

@[expose] public section

set_option maxRecDepth 16384

noncomputable section

namespace Cert.KernelIdeal.AtIndex

open Idealize.ShloMosaic Idealize.ShloMosaic.TcCoe
open Cert.KernelIdeal.Gen Cert.KernelIdeal.Run Cert.Mamba

variable [Cert.KernelIdeal.Facts]

/-- Row `j` of a trip. -/
def r8 (j : ℕ) : Fin 8 := ⟨j % 8, Nat.mod_lt _ (by decide)⟩

/-- The factor row `j` decays the state by, and what it adds. -/
def gRow (a : EReal) (d : ℕ → EReal) (j : ℕ) : EReal := Ideal.exp2 (a * d j)
def uRow (b d x : ℕ → EReal) (j : ℕ) : EReal := b j * (d j * x j)

section Half0

variable (v9 : FVec Ideal S16x2048 .f32) (v33 : Vec Ideal S1x8x16 .f32) (v63 : Vec Ideal S16x1024 .f32)
  (v65 : Vec Ideal S1x8x1024 .bf16) (v69 : Vec Ideal S1x8x1024 .f32)

/-- The state after `k` rows of the trip, from what it was before them. -/
def after0 (h : EReal) (n : Fin 16) (l : Fin 1024) (k : ℕ) : EReal :=
  lin (gRow (v9 (ix2 n ⟨l.val, by omega⟩)) fun j => v65 (ix3 0 (r8 j) l))
    (uRow (fun j => v33 (ix3 0 (r8 j) n)) (fun j => v65 (ix3 0 (r8 j) l)) fun j => v69 (ix3 0 (r8 j) l)) h k

theorem mid0_at (n : Fin 16) (l : Fin 1024) :
    mid0 v9 v33 v63 v65 v69 (ix2 n l) = after0 v9 v33 v65 v69 (v63 (ix2 n l)) n l 4 := by
  unfold mid0
  pointwise [k1_pay22, k1_pay20, k1_pay18, k1_pay16, k1_pay1, k1_pay2, k1_pay3, k1_pay4, k1_pay5, k1_pay11, k1_pay12, k1_pay13, k1_pay14, k1_pay15]
  simp only [dite_eq_ite, ite_self]
  rfl

theorem late0_at (n : Fin 16) (l : Fin 1024) :
    late0 v9 v33 v63 v65 v69 (ix2 n l) = after0 v9 v33 v65 v69 (v63 (ix2 n l)) n l 7 := by
  unfold late0
  pointwise [k1_pay29, k1_pay27, k1_pay25, k1_pay6, k1_pay7, k1_pay8, k1_pay1, k1_pay11, k1_pay12, k1_pay13]
  simp only [dite_eq_ite, ite_self]
  rw [mid0_at]
  rfl

/-- The state after the trip. -/
theorem last0_at (n : Fin 16) (l : Fin 1024) :
    last0 v9 v33 v63 v65 v69 (ix2 n l) = after0 v9 v33 v65 v69 (v63 (ix2 n l)) n l 8 := by
  unfold last0
  pointwise [k1_pay37, k1_pay34, k1_pay31, k1_pay32, k1_pay33, k1_pay9, k1_pay1, k1_pay11, k1_pay12, k1_pay13]
  simp only [dite_eq_ite, ite_self]
  rw [late0_at]
  rfl

/-- The stack of states: sixteen rows to each, the state after row `k` of the trip at `16 k`. -/
theorem stack0_cover (y : S128x2048.Idx) (hy : (y 1).val < 1024) :
    ∃ p ∈ stack0 v9 v33 v63 v65 v69, y ∈ p.1.set := by
  have h0 : (y 0).val < 128 := (y 0).isLt
  obtain ⟨k, hk⟩ : ∃ k, k = 7 - (y 0).val / 16 := ⟨_, rfl⟩
  have hk8 : k < 8 := by omega
  refine ⟨(stack0 v9 v33 v63 v65 v69)[k]'(by unfold stack0; exact hk8), List.getElem_mem _, ?_⟩
  unfold stack0
  interval_cases k <;>
  · simp only [List.getElem_cons_succ, List.getElem_cons_zero]
    rw [Rect.mem_set_unit]
    intro a
    fin_cases a
    · constructor
      · show _ ≤ (y 0).val; simp <;> omega
      · show (y 0).val < _ + 16; simp <;> omega
    · constructor
      · exact Nat.zero_le _
      · show (y 1).val < 0 + 1024; omega

theorem stack0_at (y : S128x2048.Idx) (n : Fin 16) (l : Fin 1024) (k : ℕ) (hk : k < 8) (h0 : (y 0).val = 16 * k + n.val)
    (h1 : (y 1).val = l.val) :
    View.canon (stack0 v9 v33 v63 v65 v69) y = after0 v9 v33 v65 v69 (v63 (ix2 n l)) n l (k + 1) := by
  have hcov := stack0_cover v9 v33 v63 v65 v69 y (by omega)
  unfold stack0 at hcov ⊢
  canon_tiles x h using hcov <;>
  · clear hcov
    idx_vars x
    obtain rfl : n = x0 := Fin.ext (by omega)
    obtain rfl : l = x1 := Fin.ext (by omega)
    interval_cases k <;> first
      | (exfalso; omega)
      | (pointwise [k1_pay1, k1_pay2, k1_pay3, k1_pay4, k1_pay5, k1_pay6, k1_pay7, k1_pay8, k1_pay9, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35]
         simp only [dite_eq_ite, ite_self, mid0_at, late0_at]
         rfl)

end Half0

section Half1

variable (v9 : FVec Ideal S16x2048 .f32) (v33 : Vec Ideal S1x8x16 .f32) (v194 : Vec Ideal S16x1024 .f32)
  (v196 : Vec Ideal S1x8x1024 .bf16) (v200 : Vec Ideal S1x8x1024 .f32)

/-- The state after `k` rows of the trip, from what it was before them, on the second half of the columns. -/
def after1 (h : EReal) (n : Fin 16) (l : Fin 1024) (k : ℕ) : EReal :=
  lin (gRow (v9 (ix2 n ⟨1024 + l.val, by omega⟩)) fun j => v196 (ix3 0 (r8 j) l))
    (uRow (fun j => v33 (ix3 0 (r8 j) n)) (fun j => v196 (ix3 0 (r8 j) l)) fun j => v200 (ix3 0 (r8 j) l)) h k

theorem fst1_at (n : Fin 16) (l : Fin 1024) :
    fst1 v9 v33 v194 v196 v200 (ix2 n l) = after1 v9 v33 v196 v200 (v194 (ix2 n l)) n l 1 := by
  unfold fst1
  pointwise [k1_pay41, k1_pay1, k1_pay2, k1_pay38, k1_pay39, k1_pay40]
  simp only [dite_eq_ite, ite_self]
  rfl

/-- The decayed state the fifth row adds to. -/
theorem mid1_at (n : Fin 16) (l : Fin 1024) :
    mid1 v9 v33 v194 v196 v200 (ix2 n l) = after1 v9 v33 v196 v200 (v194 (ix2 n l)) n l 4
      * gRow (v9 (ix2 n ⟨1024 + l.val, by omega⟩)) (fun j => v196 (ix3 0 (r8 j) l)) 4 := by
  unfold mid1
  pointwise [k1_pay50, k1_pay47, k1_pay45, k1_pay43, k1_pay1, k1_pay3, k1_pay4, k1_pay5, k1_pay38, k1_pay39, k1_pay40]
  simp only [dite_eq_ite, ite_self, fst1_at]
  rfl

/-- The state after the trip. -/
theorem last1_at (n : Fin 16) (l : Fin 1024) :
    last1 v9 v33 v194 v196 v200 (ix2 n l) = after1 v9 v33 v196 v200 (v194 (ix2 n l)) n l 8 := by
  unfold last1
  pointwise [k1_pay63, k1_pay58, k1_pay56, k1_pay54, k1_pay52, k1_pay51, k1_pay49, k1_pay1, k1_pay6, k1_pay7, k1_pay8, k1_pay9, k1_pay38, k1_pay39, k1_pay40]
  simp only [dite_eq_ite, ite_self, mid1_at]
  rfl

theorem stack1_cover (y : S128x2048.Idx) (hy : 1024 ≤ (y 1).val) :
    ∃ p ∈ stack1 v9 v33 v194 v196 v200, y ∈ p.1.set := by
  have h0 : (y 0).val < 128 := (y 0).isLt
  have h1 : (y 1).val < 2048 := (y 1).isLt
  obtain ⟨k, hk⟩ : ∃ k, k = 7 - (y 0).val / 16 := ⟨_, rfl⟩
  have hk8 : k < 8 := by omega
  refine ⟨(stack1 v9 v33 v194 v196 v200)[k]'(by unfold stack1; exact hk8), List.getElem_mem _, ?_⟩
  unfold stack1
  interval_cases k <;>
  · simp only [List.getElem_cons_succ, List.getElem_cons_zero]
    rw [Rect.mem_set_unit]
    intro a
    fin_cases a
    · constructor
      · show _ ≤ (y 0).val; simp <;> omega
      · show (y 0).val < _ + 16; simp <;> omega
    · constructor
      · exact hy
      · show (y 1).val < 1024 + 1024; omega

/-- The stack of the second half's states, whatever was stored in the columns of the first. -/
theorem stack1_at (v63 : Vec Ideal S16x1024 .f32) (v65 : Vec Ideal S1x8x1024 .bf16) (v69 : Vec Ideal S1x8x1024 .f32)
    (y : S128x2048.Idx) (n : Fin 16) (l : Fin 1024) (k : ℕ) (hk : k < 8)
    (h0 : (y 0).val = 16 * k + n.val) (h1 : (y 1).val = 1024 + l.val) :
    View.canon (stack1 v9 v33 v194 v196 v200 ++ stack0 v9 v33 v63 v65 v69) y
      = after1 v9 v33 v196 v200 (v194 (ix2 n l)) n l (k + 1) := by
  have hcov : ∃ p ∈ stack1 v9 v33 v194 v196 v200 ++ stack0 v9 v33 v63 v65 v69, y ∈ p.1.set := by
    obtain ⟨p, hp, hy⟩ := stack1_cover v9 v33 v194 v196 v200 y (by omega)
    exact ⟨p, List.mem_append_left _ hp, hy⟩
  unfold stack1 stack0 at hcov ⊢
  simp only [List.cons_append, List.nil_append] at hcov ⊢
  canon_tiles x h using hcov <;> first
  | (exfalso; idx_vars x; omega)
  | (clear hcov
     idx_vars x
     obtain rfl : n = x0 := Fin.ext (by omega)
     obtain rfl : l = x1 := Fin.ext (by omega)
     interval_cases k <;> first
      | (exfalso; omega)
      | (pointwise [k1_pay1, k1_pay2, k1_pay3, k1_pay4, k1_pay5, k1_pay6, k1_pay7, k1_pay8, k1_pay9, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59]
         simp only [dite_eq_ite, ite_self, fst1_at, mid1_at]
         rfl))

end Half1

end Cert.KernelIdeal.AtIndex

end
-- ==== Proof.Value.Block1.lean ====
/-
  What the second kernel's body computes at one grid point, at an index: the recurrence over the block's 256 rows, the
  rows of outputs, and the output projection.
-/
module

public import proofs.«01_k».proof.Proof.Value.Rows
public import proofs.«01_k».proof.Proof.KernelIdeal.Body1

@[expose] public section

set_option maxRecDepth 16384

noncomputable section

namespace Cert.KernelIdeal.AtIndex

open Idealize.ShloMosaic Idealize.ShloMosaic.TcCoe
open Cert.KernelIdeal.Gen Cert.KernelIdeal.Run Cert.Mamba

theorem trips_eq : k1_t1_loop.trips = 32 := by decide

/-- Row `i` of a block. -/
def r256 (i : ℕ) : Fin 256 := ⟨i % 256, Nat.mod_lt _ (by decide)⟩

section Loads

variable (k : Fin k1_t1_loop.trips)

/-- Row `8 k + j` of a block, for a row `j` of trip `k`. -/
theorem row_lt (j : Fin 8) : 8 * k.val + j.val < 256 := by have := k.isLt; have := trips_eq; omega

theorem bRows_at (x : Vec Ideal S1x256x16 .f32) (j : Fin 8) (n : Fin 16) :
    bRows x k (ix3 0 j n) = x (ix3 0 ⟨8 * k.val + j.val, row_lt k j⟩ n) :=
  congrArg x (funext fun a => Fin.ext (by rw [LoadRect.idx_apply]; simp [k1_off1_eq]; fin_cases a <;> simp))

theorem cRows_at (x : Vec Ideal S1x256x128 .bf16) (j : Fin 8) (n : Fin 128) :
    cRows x k (ix3 0 j n) = x (ix3 0 ⟨8 * k.val + j.val, row_lt k j⟩ n) :=
  congrArg x (funext fun a => Fin.ext (by rw [LoadRect.idx_apply]; simp [k1_off2_eq]; fin_cases a <;> simp))

theorem rows0_at {e : EltTy} (x : Vec Ideal S1x256x2048 e) (j : Fin 8) (l : Fin 1024) :
    rows0 x k (ix3 0 j l) = x (ix3 0 ⟨8 * k.val + j.val, row_lt k j⟩ ⟨l.val, by omega⟩) :=
  congrArg x (funext fun a => Fin.ext (by rw [LoadRect.idx_apply]; simp [k1_off3_eq]; fin_cases a <;> simp))

theorem rows1_at {e : EltTy} (x : Vec Ideal S1x256x2048 e) (j : Fin 8) (l : Fin 1024) :
    rows1 x k (ix3 0 j l) = x (ix3 0 ⟨8 * k.val + j.val, row_lt k j⟩ ⟨1024 + l.val, by omega⟩) :=
  congrArg x (funext fun a => Fin.ext (by rw [LoadRect.idx_apply]; simp [k1_off5_eq]; fin_cases a <;> simp))

theorem st0_at (h : Vec Ideal S16x2048 .f32) (n : Fin 16) (l : Fin 1024) : st0 h (ix2 n l) = h (ix2 n ⟨l.val, by omega⟩) :=
  congrArg h (funext fun a => Fin.ext (by rw [LoadRect.idx_apply]; fin_cases a <;> simp))

theorem st1_at (h : Vec Ideal S16x2048 .f32) (n : Fin 16) (l : Fin 1024) : st1 h (ix2 n l) = h (ix2 n ⟨1024 + l.val, by omega⟩) :=
  congrArg h (funext fun a => Fin.ext (by rw [LoadRect.idx_apply]; fin_cases a <;> simp))

end Loads

/-- The row of the block a trip's row is. -/
theorem row_eq (k : Fin k1_t1_loop.trips) (i : ℕ) (hi : i < 8) :
    (⟨8 * k.val + (r8 i).val, row_lt k (r8 i)⟩ : Fin 256) = r256 (8 * k.val + i) := by
  have := k.isLt; have := trips_eq
  refine Fin.ext ?_
  show 8 * k.val + i % 8 = (8 * k.val + i) % 256
  omega

section Block

variable (v3 : Vec Ideal S16x2048 .f32) (x2 : Vec Ideal S1x256x2048 .bf16) (x3 : Vec Ideal S1x256x2048 .f32)
  (x5 : Vec Ideal S1x256x16 .f32) (x6 : Vec Ideal S1x256x128 .bf16) (h : Vec Ideal S16x2048 .f32)

/-- The factor row `i` of the block decays the state by, and what it adds. -/
def gB (n : Fin 16) (e : Fin 2048) (i : ℕ) : EReal := gRow (k1_pay61 v3 (ix2 n e)) (fun i => x2 (ix3 0 (r256 i) e)) i
def uB (n : Fin 16) (e : Fin 2048) (i : ℕ) : EReal :=
  uRow (fun i => x5 (ix3 0 (r256 i) n)) (fun i => x2 (ix3 0 (r256 i) e)) (fun i => x3 (ix3 0 (r256 i) e)) i

/-- The state after `i` rows of the block. -/
def hB (n : Fin 16) (e : Fin 2048) (i : ℕ) : EReal := lin (gB v3 x2 n e) (uB x2 x3 x5 n e) (h (ix2 n e)) i

/-- A trip's rows are the block's, on the first half of the columns. -/
theorem after0_eq (k : Fin k1_t1_loop.trips) (r : EReal) (n : Fin 16) (l : Fin 1024) (j : ℕ) (hj : j ≤ 8) :
    after0 (k1_pay61 v3) (bRows x5 k) (rows0 x2 k) (rows0 x3 k) r n l j
      = lin (fun i => gB v3 x2 n ⟨l.val, by omega⟩ (8 * k.val + i)) (fun i => uB x2 x3 x5 n ⟨l.val, by omega⟩ (8 * k.val + i)) r j := by
  refine lin_congr j rfl (fun i hi => ?_) fun i hi => ?_
  · simp only [gRow, gB]
    rw [rows0_at, row_eq k i (by omega)]
  · simp only [uRow, uB]
    rw [bRows_at, rows0_at, rows0_at, row_eq k i (by omega)]

/-- The same on the second half. -/
theorem after1_eq (k : Fin k1_t1_loop.trips) (r : EReal) (n : Fin 16) (l : Fin 1024) (j : ℕ) (hj : j ≤ 8) :
    after1 (k1_pay61 v3) (bRows x5 k) (rows1 x2 k) (rows1 x3 k) r n l j
      = lin (fun i => gB v3 x2 n ⟨1024 + l.val, by omega⟩ (8 * k.val + i)) (fun i => uB x2 x3 x5 n ⟨1024 + l.val, by omega⟩ (8 * k.val + i)) r j := by
  refine lin_congr j rfl (fun i hi => ?_) fun i hi => ?_
  · simp only [gRow, gB]
    rw [rows1_at, row_eq k i (by omega)]
  · simp only [uRow, uB]
    rw [bRows_at, rows1_at, rows1_at, row_eq k i (by omega)]

/-- The state a trip leaves. -/
theorem hStep_at (k : Fin k1_t1_loop.trips) (n : Fin 16) (e : Fin 2048) :
    hStep v3 x2 x3 x5 h k (ix2 n e)
      = lin (fun i => gB v3 x2 n e (8 * k.val + i)) (fun i => uB x2 x3 x5 n e (8 * k.val + i)) (h (ix2 n e)) 8 := by
  unfold hStep
  have hcov := hTrip_cover v3 x2 x3 x5 h k (ix2 n e)
  unfold hTrip at hcov ⊢
  canon_tiles x hx using hcov
  · clear hcov
    idx_vars x
    obtain rfl : n = x0 := Fin.ext (by simpa using hx0)
    obtain rfl : e = ⟨1024 + x1.val, by clear * - x1_lt; omega⟩ := Fin.ext (by simpa using hx1)
    rw [last1_at, st1_at, after1_eq _ _ _ _ _ _ _ _ _ le_rfl]
  · clear hcov
    idx_vars x
    obtain rfl : n = x0 := Fin.ext (by simpa using hx0)
    obtain rfl : e = ⟨x1.val, by clear * - x1_lt; omega⟩ := Fin.ext (by simpa using hx1)
    rw [last0_at, st0_at, after0_eq _ _ _ _ _ _ _ _ _ le_rfl]

/-- The state before trip `k`. -/
theorem hSeq_at (n : Fin 16) (e : Fin 2048) (k : ℕ) (hk : k ≤ k1_t1_loop.trips) :
    hSeq v3 x2 x3 x5 h k (ix2 n e) = hB v3 x2 x3 x5 h n e (8 * k) := by
  induction k with
  | zero => rfl
  | succ k ih =>
    refine (congrFun (hSeq_succ v3 x2 x3 x5 h ⟨k, hk⟩) _).trans ?_
    rw [hStep_at, ih (by omega)]
    unfold hB
    rw [show 8 * (k + 1) = 8 * k + 8 by ring, lin_add]

/-- The state the block leaves. -/
theorem hOut1_at (n : Fin 16) (e : Fin 2048) : hOut1 x2 x3 x5 v3 h (ix2 n e) = hB v3 x2 x3 x5 h n e 256 := by
  unfold hOut1
  rw [hSeq_at _ _ _ _ _ _ _ _ le_rfl, trips_eq]

/-- The stack of a trip's states. -/
theorem stk0_at (k : Fin k1_t1_loop.trips) (q : Fin 8) (n : Fin 16) (l : Fin 1024) :
    stk0 v3 x2 x3 x5 (hSeq v3 x2 x3 x5 h k.val) k (ix2 ⟨q.val * 16 + n.val, by omega⟩ l)
      = hB v3 x2 x3 x5 h n ⟨l.val, by omega⟩ (8 * k.val + q.val + 1) := by
  unfold stk0
  rw [stack0_at _ _ _ _ _ _ n l q.val q.isLt (by rw [LoadRect.idx_apply]; simp; omega) (by rw [LoadRect.idx_apply]; simp),
    st0_at, hSeq_at _ _ _ _ _ _ _ _ (by omega), after0_eq _ _ _ _ _ _ _ _ _ (by omega)]
  unfold hB
  rw [Nat.add_assoc]
  exact (lin_add _ _ _ (8 * k.val) (q.val + 1)).symm

theorem stk1_at (k : Fin k1_t1_loop.trips) (q : Fin 8) (n : Fin 16) (l : Fin 1024) :
    stk1 v3 x2 x3 x5 (hSeq v3 x2 x3 x5 h k.val) k (ix2 ⟨q.val * 16 + n.val, by omega⟩ l)
      = hB v3 x2 x3 x5 h n ⟨1024 + l.val, by omega⟩ (8 * k.val + q.val + 1) := by
  unfold stk1
  rw [stack1_at _ _ _ _ _ _ _ _ _ n l q.val q.isLt (by rw [LoadRect.idx_apply]; simp; omega) (by rw [LoadRect.idx_apply]; simp),
    st1_at, hSeq_at _ _ _ _ _ _ _ _ (by omega), after1_eq _ _ _ _ _ _ _ _ _ (by omega)]
  unfold hB
  rw [Nat.add_assoc]
  exact (lin_add _ _ _ (8 * k.val) (q.val + 1)).symm

/-- The product a row of outputs is: over the 128 stacked rows. -/
theorem prod0_at (w : FVec Ideal S1x8x128 .bf16) (s : Vec Ideal S128x1024 .bf16) (j : Fin 8) (l : Fin 1024) :
    k1_pay36 (k1_pay10 w) s (ix2 j l) = (∑ r : Fin 128, (w (ix3 0 j r) * s (ix2 r l) : EReal)) := by
  pointwise [k1_pay36, k1_pay10]

theorem prod1_at (w : FVec Ideal S1x8x128 .bf16) (s : Vec Ideal S128x1024 .bf16) (j : Fin 8) (l : Fin 1024) :
    k1_pay62 (k1_pay10 w) s (ix2 j l) = (∑ r : Fin 128, (w (ix3 0 j r) * s (ix2 r l) : EReal)) := by
  pointwise [k1_pay62, k1_pay10]

variable (cv : Fin 256 → Fin 16 → EReal)

/-- Row `r` of the block's output weights lies in lanes `16 (r mod 8)` to `16 (r mod 8) + 15`; the other lanes are zero. -/
def Spread : Prop := ∀ (r : Fin 256) (q : Fin 8) (n : Fin 16),
  x6 (ix3 0 r ⟨q.val * 16 + n.val, by omega⟩) = if q.val = r.val % 8 then cv r n else (0 : EReal)

/-- Row `r` of the scan's outputs. -/
def yB (r : Fin 256) (e : Fin 2048) : EReal := ∑ n : Fin 16, cv r n * hB v3 x2 x3 x5 h n e (r.val + 1)

/-- The product over the stacked rows keeps the states after the row itself. -/
theorem stacked (hC : Spread x6 cv) (k : Fin k1_t1_loop.trips) (j : Fin 8) (e : Fin 2048) (s : Fin 128 → EReal)
    (hs : ∀ (q : Fin 8) (n : Fin 16), s ⟨q.val * 16 + n.val, by omega⟩ = hB v3 x2 x3 x5 h n e (8 * k.val + q.val + 1)) :
    (∑ r : Fin 128, (x6 (ix3 0 ⟨8 * k.val + j.val, row_lt k j⟩ r) * s r : EReal))
      = yB v3 x2 x3 x5 h cv ⟨8 * k.val + j.val, row_lt k j⟩ e := by
  rw [← Fin.sum_mul_add_fin 8 16 (fun r : Fin 128 => (x6 (ix3 0 ⟨8 * k.val + j.val, row_lt k j⟩ r) * s r : EReal))]
  rw [Finset.sum_eq_single j]
  · refine Finset.sum_congr rfl fun n _ => ?_
    rw [hC, hs, if_pos (show j.val = (8 * k.val + j.val) % 8 by omega)]
  · intro q _ hq
    refine Finset.sum_eq_zero fun n _ => ?_
    rw [hC, if_neg (show ¬ q.val = (8 * k.val + j.val) % 8 from fun hh => hq (Fin.ext (by omega))), zero_mul]
  · intro hh; exact absurd (Finset.mem_univ _) hh

/-- The rows of outputs after all the trips. -/
theorem yPieces_at (hC : Spread x6 cv) (r : Fin 256) (e : Fin 2048) :
    View.canon (yPieces v3 x2 x3 x5 x6 h k1_t1_loop.trips) (ix2 r e) = yB v3 x2 x3 x5 h cv r e := by
  refine View.canon_apply_of_pieces (Val := Elt Ideal) (e := .f32) (fun y : S256x2048.Idx => yB v3 x2 x3 x5 h cv (y 0) (y 1)) _ ?_ _ (yPieces_cover _ _ _ _ _ _ _)
  suffices H : ∀ k ≤ k1_t1_loop.trips, ∀ p ∈ yPieces v3 x2 x3 x5 x6 h k, ∀ x : p.1.shape.Idx,
      p.2 x = yB v3 x2 x3 x5 h cv (p.1.emb x 0) (p.1.emb x 1) from H _ le_rfl
  intro k
  induction k with
  | zero => intro _ p hp; exact absurd hp List.not_mem_nil
  | succ k ih =>
    intro hk p hp
    rw [yPieces_succ v3 x2 x3 x5 x6 h ⟨k, hk⟩] at hp
    rcases List.mem_append.mp hp with hp | hp
    · unfold yTrip at hp
      rcases List.mem_cons.mp hp with rfl | hp
      · intro x
        obtain ⟨j, l, rfl⟩ : ∃ (j : Fin 8) (l : Fin 1024), x = ix2 j l := ⟨x 0, x 1, eq_ix2 x⟩
        refine (prod1_at _ _ j l).trans ?_
        refine (Finset.sum_congr (M := EReal) rfl fun r _ => congrArg (fun z : EReal => z * _) (cRows_at ⟨k, hk⟩ x6 j r)).trans ?_
        refine (stacked v3 x2 x3 x5 x6 h cv hC ⟨k, hk⟩ j ⟨1024 + l.val, by omega⟩
          (fun r => stk1 v3 x2 x3 x5 (hSeq v3 x2 x3 x5 h k) ⟨k, hk⟩ (ix2 r l)) fun q n => stk1_at v3 x2 x3 x5 h ⟨k, hk⟩ q n l).trans ?_
        congr 1
        · exact Fin.ext (by rw [Rect.emb_apply]; simp [k1_off6_eq])
        · exact Fin.ext (by rw [Rect.emb_apply]; simp [k1_off6_eq])
      · obtain rfl := List.mem_singleton.mp hp
        intro x
        obtain ⟨j, l, rfl⟩ : ∃ (j : Fin 8) (l : Fin 1024), x = ix2 j l := ⟨x 0, x 1, eq_ix2 x⟩
        refine (prod0_at _ _ j l).trans ?_
        refine (Finset.sum_congr (M := EReal) rfl fun r _ => congrArg (fun z : EReal => z * _) (cRows_at ⟨k, hk⟩ x6 j r)).trans ?_
        refine (stacked v3 x2 x3 x5 x6 h cv hC ⟨k, hk⟩ j ⟨l.val, by omega⟩
          (fun r => stk0 v3 x2 x3 x5 (hSeq v3 x2 x3 x5 h k) ⟨k, hk⟩ (ix2 r l)) fun q n => stk0_at v3 x2 x3 x5 h ⟨k, hk⟩ q n l).trans ?_
        congr 1
        · exact Fin.ext (by rw [Rect.emb_apply]; simp [k1_off4_eq])
        · exact Fin.ext (by rw [Rect.emb_apply]; simp [k1_off4_eq])
    · exact ih (by omega) p hp

/-- The output projection of a block of rows. -/
theorem outProj_at (y : Vec Ideal S256x2048 .f32) (x4 : Vec Ideal S1x256x2048 .bf16) (x8 : Vec Ideal S1x2048 .f32)
    (x9 : Vec Ideal S1024x2048 .f32) (r : Fin 256) (d : Fin 1024) :
    k1_pay64 y x3 x8 x4 x9 (ix3 0 r d)
      = (∑ e : Fin 2048, (y (ix2 r e) + x3 (ix3 0 r e) * x8 (ix2 0 e)) * x4 (ix3 0 r e) * x9 (ix2 d e) : EReal) := by
  pointwise [k1_pay64]

/-- What a point stores. -/
theorem out1_at (hC : Spread x6 cv) (x4 : Vec Ideal S1x256x2048 .bf16) (x8 : Vec Ideal S1x2048 .f32)
    (x9 : Vec Ideal S1024x2048 .f32) (r : Fin 256) (d : Fin 1024) :
    out1 x2 x3 x4 x5 x6 v3 x8 x9 h (ix3 0 r d)
      = (∑ e : Fin 2048, (yB v3 x2 x3 x5 h cv r e + x3 (ix3 0 r e) * x8 (ix2 0 e)) * x4 (ix3 0 r e) * x9 (ix2 d e) : EReal) := by
  unfold out1
  rw [outProj_at]
  simp only [yPieces_at v3 x2 x3 x5 x6 h cv hC]

end Block

end Cert.KernelIdeal.AtIndex

end
-- ==== Proof.Value.Array1.lean ====
/-
  What the second kernel leaves in its output array, at an index: the block's result.
-/
module

public import proofs.«01_k».proof.Proof.Value.Array0
public import proofs.«01_k».proof.Proof.Value.Block1

@[expose] public section

set_option maxRecDepth 16384

noncomputable section

namespace Cert.KernelIdeal.AtIndex

open Idealize.ShloMosaic Idealize.ShloMosaic.TcCoe Idealize.ShloMosaic.StableHlo
open Cert.KernelIdeal Cert.KernelIdeal.Gen Cert.KernelIdeal.Run Cert.Mamba

variable (m : (ℓ : Loc nD τ sig) → Buf (Elt Ideal) ℓ) (ρ : Dev nD → PrngReg) (c : Dev nD)

/-! ## The arrays the second call reads -/

theorem V2_xc : V2 m ρ c main_v5_0 = xcArr m c := (W2_arr m ρ c 8).trans (arr8 m ρ c)
theorem V2_zs : V2 m ρ c main_v5_1 = zsArr m c := (W2_arr m ρ c 9).trans (arr9 m ρ c)
theorem V2_dt : V2 m ρ c main_v5_2 = dtArr m c := (W2_arr m ρ c 10).trans (arr10 m ρ c)
theorem V2_bb : V2 m ρ c main_v5_3 = bbArr m c := (W2_arr m ρ c 11).trans (arr11 m ρ c)
theorem V2_cc : V2 m ρ c main_v5_4 = ccArr m c := (W2_arr m ρ c 12).trans (arr12 m ρ c)
theorem V2_al (n : Fin 16) (e : Fin 2048) : V2 m ρ c main_v1 (ix2 n e) = (args m c).al e n :=
  (congrFun (W2_of m ρ c main_v1 (by decide +kernel)) (ix2 n e)).trans (V1_v1 m ρ c n e)
theorem V2_dv (e : Fin 2048) : V2 m ρ c main_v4 (ix2 0 e) = (args m c).dv e :=
  (congrFun (W2_of m ρ c main_v4 (by decide +kernel)) (ix2 0 e)).trans (V1_v4 m ρ c e)
theorem V2_wo (d : Fin 1024) (e : Fin 2048) : V2 m ρ c main_arg9 (ix2 d e) = (args m c).wo d e :=
  congrFun (W2_args m ρ c main_arg9 (by decide)) (ix2 d e)

/-! ## The blocks a grid point reads -/

/-- A grid point's batch and its block of rows. -/
def bOf1 (t : Fin cfg1.N) : Fin 2 := ⟨t.val / 4, by have : t.val < 8 := t.isLt; omega⟩
def rOf (t : Fin cfg1.N) (r : Fin 256) : Fin 1024 := ⟨(t.val % 4) * 256 + r.val, by omega⟩

theorem index1_0 : ∀ t : Fin cfg1.N, win1_0.index t = ![t.val / 4, t.val % 4, 0] := (by decide +kernel : ∀ t : Fin grid1.N, _)
theorem index1_1 : ∀ t : Fin cfg1.N, win1_1.index t = ![t.val / 4, t.val % 4, 0] := (by decide +kernel : ∀ t : Fin grid1.N, _)
theorem index1_2 : ∀ t : Fin cfg1.N, win1_2.index t = ![t.val / 4, t.val % 4, 0] := (by decide +kernel : ∀ t : Fin grid1.N, _)
theorem index1_3 : ∀ t : Fin cfg1.N, win1_3.index t = ![t.val / 4, t.val % 4, 0] := (by decide +kernel : ∀ t : Fin grid1.N, _)
theorem index1_4 : ∀ t : Fin cfg1.N, win1_4.index t = ![t.val / 4, t.val % 4, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![t.val / 4, t.val % 4, 0] := (by decide +kernel : ∀ t : Fin grid1.N, _)

theorem iblk1_0 (t : Fin cfg1.N) (r : Fin 256) (e : Fin 2048) :
    iblk1 (V2 m ρ) c 0 t (ix3 0 r e) = (args m c).dt (bOf1 t) (rOf t r) e := by
  refine Eq.trans ?_ (congrFun (V2_dt m ρ c) (ix3 (bOf1 t) (rOf t r) e))
  blk_simp [iblk1]
  refine congrArg (V2 m ρ c main_v5_2) ?_
  blk_ext [index1_0, bOf1, rOf]
theorem iblk1_1 (t : Fin cfg1.N) (r : Fin 256) (e : Fin 2048) :
    iblk1 (V2 m ρ) c 1 t (ix3 0 r e) = (args m c).xc (bOf1 t) (rOf t r) e := by
  refine Eq.trans ?_ (congrFun (V2_xc m ρ c) (ix3 (bOf1 t) (rOf t r) e))
  blk_simp [iblk1]
  refine congrArg (V2 m ρ c main_v5_0) ?_
  blk_ext [index1_1, bOf1, rOf]
theorem iblk1_2 (t : Fin cfg1.N) (r : Fin 256) (e : Fin 2048) :
    iblk1 (V2 m ρ) c 2 t (ix3 0 r e) = silu ((args m c).proj (bOf1 t) (rOf t r) ⟨2048 + e.val, by omega⟩) := by
  refine Eq.trans ?_ (congrFun (V2_zs m ρ c) (ix3 (bOf1 t) (rOf t r) e))
  blk_simp [iblk1]
  refine congrArg (V2 m ρ c main_v5_1) ?_
  blk_ext [index1_2, bOf1, rOf]
theorem iblk1_3 (t : Fin cfg1.N) (r : Fin 256) (n : Fin 16) :
    iblk1 (V2 m ρ) c 3 t (ix3 0 r n) = (args m c).bb (bOf1 t) (rOf t r) n := by
  refine Eq.trans ?_ (congrFun (V2_bb m ρ c) (ix3 (bOf1 t) (rOf t r) n))
  blk_simp [iblk1]
  refine congrArg (V2 m ρ c main_v5_3) ?_
  blk_ext [index1_3, bOf1, rOf]
theorem iblk1_4 (t : Fin cfg1.N) : Spread (iblk1 (V2 m ρ) c 4 t) fun r n => (args m c).cc (bOf1 t) (rOf t r) n := by
  intro r q n
  refine Eq.trans (b := V2 m ρ c main_v5_4 (ix3 (bOf1 t) (rOf t r) ⟨q.val * 16 + n.val, by omega⟩)) ?_ ?_
  · blk_simp [iblk1]
    refine congrArg (V2 m ρ c main_v5_4) ?_
    blk_ext [index1_4, bOf1, rOf]
  · refine (congrFun (V2_cc m ρ c) _).trans ((ccArr_at m c _ _ q n).trans ?_)
    have e : (rOf t r).val % 8 = r.val % 8 := by show (t.val % 4 * 256 + r.val) % 8 = r.val % 8; omega
    rw [e]
theorem iblk1_5 (t : Fin cfg1.N) (n : Fin 16) (e : Fin 2048) : iblk1 (V2 m ρ) c 5 t (ix2 n e) = (args m c).al e n := by
  refine Eq.trans ?_ (V2_al m ρ c n e)
  blk_simp [iblk1]
  refine congrArg (V2 m ρ c main_v1) ?_
  blk_ext [index1_5]
theorem iblk1_6 (t : Fin cfg1.N) (e : Fin 2048) : iblk1 (V2 m ρ) c 6 t (ix2 0 e) = (args m c).dv e := by
  refine Eq.trans ?_ (V2_dv m ρ c e)
  blk_simp [iblk1]
  refine congrArg (V2 m ρ c main_v4) ?_
  blk_ext [index1_6]
theorem iblk1_7 (t : Fin cfg1.N) (d : Fin 1024) (e : Fin 2048) : iblk1 (V2 m ρ) c 7 t (ix2 d e) = (args m c).wo d e := by
  refine Eq.trans ?_ (V2_wo m ρ c d e)
  blk_simp [iblk1]
  refine congrArg (V2 m ρ c main_arg9) ?_
  blk_ext [index1_7]

/-! ## The recurrence inside a grid point, and across grid points -/

theorem rOf_r256 (t : Fin cfg1.N) (i : ℕ) (hi : i < 256) : rOf t (r256 i) = Args.tm ((t.val % 4) * 256 + i) :=
  Fin.ext (by show t.val % 4 * 256 + i % 256 = (t.val % 4 * 256 + i) % 1024; omega)

/-- `1 / log 2` times the negated exponential. -/
theorem rate_at (v3 : Vec Ideal S16x2048 .f32) (n : Fin 16) (e : Fin 2048) :
    k1_pay61 v3 (ix2 n e) = (0 - Ideal.exp (v3 (ix2 n e))) * (((Real.log 2)⁻¹ : ℝ) : EReal) := by
  pointwise [k1_pay61]
  exact congrArg (fun x : EReal => (0 - Ideal.exp (v3 (ix2 n e))) * x) (IdealRules.named_const.ideal_named_scalar _ _ _ _ rfl)

theorem zero_at (n : Fin 16) (e : Fin 2048) : k1_pay60 (F := Ideal) (ix2 n e) = (0 : EReal) := by
  pointwise [k1_pay60]

theorem gB_eq (t : Fin cfg1.N) (n : Fin 16) (e : Fin 2048) (i : ℕ) (hi : i < 256) :
    gB (iblk1 (V2 m ρ) c 5 t) (iblk1 (V2 m ρ) c 0 t) n e i = (args m c).decay (bOf1 t) e n ((t.val % 4) * 256 + i) := by
  unfold gB gRow Args.decay
  beta_reduce
  rw [rate_at, iblk1_5, iblk1_0, rOf_r256 t i hi, exp2_decay]

theorem uB_eq (t : Fin cfg1.N) (n : Fin 16) (e : Fin 2048) (i : ℕ) (hi : i < 256) :
    uB (iblk1 (V2 m ρ) c 0 t) (iblk1 (V2 m ρ) c 1 t) (iblk1 (V2 m ρ) c 3 t) n e i
      = (args m c).drive (bOf1 t) e n ((t.val % 4) * 256 + i) := by
  unfold uB uRow Args.drive
  beta_reduce
  rw [iblk1_0, iblk1_1, iblk1_3, rOf_r256 t i hi]
  ac_rfl

/-- From the state before the point's rows, `i` rows on. -/
theorem hB_eq (t : Fin cfg1.N) (h : Vec Ideal S16x2048 .f32) (n : Fin 16) (e : Fin 2048)
    (hh : h (ix2 n e) = (args m c).hs (bOf1 t) e n ((t.val % 4) * 256)) (i : ℕ) (hi : i ≤ 256) :
    hB (iblk1 (V2 m ρ) c 5 t) (iblk1 (V2 m ρ) c 0 t) (iblk1 (V2 m ρ) c 1 t) (iblk1 (V2 m ρ) c 3 t) h n e i
      = (args m c).hs (bOf1 t) e n ((t.val % 4) * 256 + i) := by
  unfold hB Args.hs
  rw [lin_add]
  exact lin_congr i hh (fun k hk => gB_eq m ρ c t n e k (by omega)) fun k hk => uB_eq m ρ c t n e k (by omega)

/-- The state a point is entered with. -/
theorem hIn_eq (n : Fin 16) (e : Fin 2048) : ∀ (k : ℕ) (hk : k < cfg1.N),
    hIn (V2 m ρ) c k hk (ix2 n e) = (args m c).hs (bOf1 ⟨k, hk⟩) e n ((k % 4) * 256) := by
  have first : ∀ t : Fin cfg1.N, t.val % 4 = 0 →
      hIn (V2 m ρ) c t.val t.isLt (ix2 n e) = (args m c).hs (bOf1 t) e n ((t.val % 4) * 256) := by
    intro t h
    rw [hIn_first _ _ t h, zero_at, h]
    rfl
  intro k
  induction k with
  | zero => exact fun hk => first ⟨0, hk⟩ rfl
  | succ k ih =>
    intro hk
    by_cases h0 : (k + 1) % 4 = 0
    · exact first ⟨k + 1, hk⟩ h0
    · have hk' : k < cfg1.N := Nat.lt_of_succ_lt hk
      refine (congrFun (hIn_next (V2 m ρ) c ⟨k + 1, hk⟩ h0) (ix2 n e)).trans ?_
      refine (hOut1_at (iblk1 (V2 m ρ) c 5 ⟨k, hk'⟩) (iblk1 (V2 m ρ) c 0 ⟨k, hk'⟩) (iblk1 (V2 m ρ) c 1 ⟨k, hk'⟩) (iblk1 (V2 m ρ) c 3 ⟨k, hk'⟩)
        (hIn (V2 m ρ) c k hk') n e).trans ?_
      refine (hB_eq m ρ c ⟨k, hk'⟩ _ n e (ih hk') 256 (by omega)).trans ?_
      have e1 : bOf1 ⟨k, hk'⟩ = bOf1 ⟨k + 1, hk⟩ := Fin.ext (by show k / 4 = (k + 1) / 4; omega)
      have e2 : k % 4 * 256 + 256 = (k + 1) % 4 * 256 := by omega
      rw [e1, ← e2]

/-! ## The array -/

/-- The result. -/
def outArr (i : S2x1024x1024.Idx) : EReal := (args m c).out (i 0) (i 1) (i 2)

theorem out1_eq (t : Fin cfg1.N) (r : Fin 256) (d : Fin 1024) :
    out1 (iblk1 (V2 m ρ) c 0 t) (iblk1 (V2 m ρ) c 1 t) (iblk1 (V2 m ρ) c 2 t) (iblk1 (V2 m ρ) c 3 t) (iblk1 (V2 m ρ) c 4 t)
      (iblk1 (V2 m ρ) c 5 t) (iblk1 (V2 m ρ) c 6 t) (iblk1 (V2 m ρ) c 7 t) (hIn (V2 m ρ) c t.val t.isLt) (ix3 0 r d)
      = (args m c).out (bOf1 t) (rOf t r) d := by
  refine (out1_at _ _ _ _ _ _ _ (iblk1_4 m ρ c t) _ _ _ r d).trans ?_
  unfold Args.out Args.gated Args.y yB
  refine Finset.sum_congr (M := EReal) rfl fun e _ => ?_
  rw [iblk1_1, iblk1_6, iblk1_2, iblk1_7]
  refine congrArg (fun x : EReal => (x + _) * _ * _) (Finset.sum_congr (M := EReal) rfl fun n _ => ?_)
  rw [hB_eq m ρ c t _ n e (hIn_eq m ρ c n e t.val t.isLt) (r.val + 1) (by omega), mul_comm]
  rfl

theorem arrOut : (dat1 (V2 m ρ) c).arrAt 8 cfg1.N = outArr m c := by
  refine (dat1 (V2 m ρ) c).arrAt_eq_of_covers 8 _ (by decide +kernel) fun t hf y => ?_
  blk_simp
  rw [after1_8]
  idx_vars y
  obtain rfl : y0 = 0 := Subsingleton.elim _ _
  refine (out1_eq m ρ c t y1 y2).trans ?_
  show outArr m c (ix3 (bOf1 t) (rOf t y1) y2) = _
  refine congrArg (outArr m c) ?_
  blk_ext [index1_8, bOf1, rOf]

end Cert.KernelIdeal.AtIndex

end
-- ==== Proof.Reference.Stretch.lean ====
/-
  What each stretch of the reference's operations writes, at an index, in terms of what the buffers held before it.
-/
module

public import proofs.«01_k».proof.Proof.Reference.Frame
public import proofs.«01_k».proof.Proof.Value.Spec
public import Idealize.ShloMosaic.Lib.Pointwise
public import Idealize.ShloMosaic.Lib.StableHlo.ReadAt
public import Idealize.ShloMosaic.Lib.KernelVsHost
public import Idealize.ShloMosaic.Lib.DynamicIndex

@[expose] public section

set_option maxRecDepth 16384

noncomputable section

namespace Cert.ReferenceIdeal.AtIndex

open Idealize.ShloMosaic Idealize.ShloMosaic.TcCoe Idealize.SL.Sem Idealize.ShloMosaic.StableHlo
open Cert.ReferenceIdeal Cert.ReferenceIdeal.Gen Cert.ReferenceIdeal.Value Cert.Mamba

/-- `V`'s buffer `r`. -/
abbrev at_ (V : Valuation τ sig (Elt Ideal)) (r : Ref sig .tc) := V (Proc.devRef .tc r)

/-- An entry, as the number it is. -/
abbrev num (x : EReal) : EReal := x

/-- The arguments a valuation holds, at their indices. -/
def argsOf (V : Valuation τ sig (Elt Ideal)) : Args where
  x b t d := at_ V main_arg0 (ix3 b t d)
  win f d := at_ V main_arg1 (ix2 f d)
  cw e k := at_ V main_arg2 (ix2 e k)
  cb e := at_ V main_arg3 (ix1 e)
  xp r e := at_ V main_arg4 (ix2 r e)
  dw e r := at_ V main_arg5 (ix2 e r)
  db e := at_ V main_arg6 (ix1 e)
  al e n := at_ V main_arg7 (ix2 e n)
  dv e := at_ V main_arg8 (ix1 e)
  wo d e := at_ V main_arg9 (ix2 d e)

variable (V : Valuation τ sig (Elt Ideal))

/-- The convolution's half of the input projection. -/
theorem v1_at (b : Fin 2) (t : Fin 1024) (e : Fin 2048) :
    at_ (after hostOps0 V) main_v1 (ix3 b t e) = (argsOf V).proj b t ⟨e.val, by omega⟩ := by
  after_reads_at; rfl

/-- The gate's half. -/
theorem v2_at (b : Fin 2) (t : Fin 1024) (e : Fin 2048) :
    at_ (after hostOps0 V) main_v2 (ix3 b t e) = (argsOf V).proj b t ⟨2048 + e.val, by omega⟩ := by
  after_reads_at; rfl

/-- The padding's value, as an integer. -/
theorem c_at : at_ (after hostOps0 V) main_c = fun _ => 0#32 := by
  after_reads_simp; rfl

/-- Three rows of padding go before the first row. -/
theorem v3_at (hc : at_ V main_c = fun _ => 0#32) (b : Fin 2) (t : Fin 1027) (e : Fin 2048) :
    at_ (after hostOps0_1 V) main_v3 (ix3 b t e)
      = (if h : 3 ≤ t.val then at_ V main_v1 (ix3 b ⟨t.val - 3, by omega⟩ e) else 0 : EReal) := by
  after_reads_at
  by_cases h : 3 ≤ t.val
  · rw [dif_pos ⟨h, by omega⟩, dif_pos h]
  · rw [dif_neg (fun hh => h hh.1), dif_neg h]
    show FloatOps.sitofp FTy.f32 (at_ V main_c _) = _
    rw [hc]
    exact sitofp_zero

/-- The convolution: four taps and the bias. -/
theorem v35_at (b : Fin 2) (t : Fin 1024) (e : Fin 2048) :
    at_ (after hostOps0_2 V) main_v35 (ix3 b t e)
      = ((argsOf V).cw e 0 * num (at_ V main_v3 (ix3 b ⟨t.val, by omega⟩ e)) + (argsOf V).cw e 1 * num (at_ V main_v3 (ix3 b ⟨1 + t.val, by omega⟩ e))
        + (argsOf V).cw e 2 * num (at_ V main_v3 (ix3 b ⟨2 + t.val, by omega⟩ e)) + (argsOf V).cw e 3 * num (at_ V main_v3 (ix3 b ⟨3 + t.val, by omega⟩ e))
        + (argsOf V).cb e : EReal) := by
  after_reads_at; rfl

/-- The activation. -/
theorem v36_at (b : Fin 2) (t : Fin 1024) (e : Fin 2048) :
    at_ (after hostOps0_3 V) main_v36 (ix3 b t e) = silu (at_ V main_v35 (ix3 b t e)) := by
  after_reads_at; rfl

/-- The projection to (dt, B, C), its three parts. -/
theorem v39_at (b : Fin 2) (t : Fin 1024) (n : Fin 16) :
    at_ (after hostOps0_4 V) main_v39 (ix3 b t n)
      = (∑ e : Fin 2048, num (at_ V main_v36 (ix3 b t e)) * (argsOf V).xp ⟨64 + n.val, by omega⟩ e : EReal) := by
  after_reads_at; rfl

theorem v40_at (b : Fin 2) (t : Fin 1024) (n : Fin 16) :
    at_ (after hostOps0_4 V) main_v40 (ix3 b t n)
      = (∑ e : Fin 2048, num (at_ V main_v36 (ix3 b t e)) * (argsOf V).xp ⟨80 + n.val, by omega⟩ e : EReal) := by
  after_reads_at; rfl

theorem v44_at (b : Fin 2) (t : Fin 1024) (e : Fin 2048) :
    at_ (after hostOps0_4 V) main_v44 (ix3 b t e)
      = ((∑ r : Fin 64, (∑ e' : Fin 2048, num (at_ V main_v36 (ix3 b t e')) * (argsOf V).xp ⟨r.val, by omega⟩ e')
          * (argsOf V).dw e r) + (argsOf V).db e : EReal) := by
  after_reads_at; rfl

/-- The softplus. -/
theorem v45_at (b : Fin 2) (t : Fin 1024) (e : Fin 2048) :
    at_ (after hostOps0_5 V) main_v45 (ix3 b t e) = softplus (at_ V main_v44 (ix3 b t e)) := by
  after_reads_at
  rw [if_neg (fun h => h rfl)]; rfl

/-- The factor the state decays by, laid out row first. -/
theorem v67_0_at (t : Fin 1024) (b : Fin 2) (e : Fin 2048) (n : Fin 16) :
    at_ (after hostOps0_6 V) main_v67_0 (ix4 t b e n)
      = Ideal.exp (num (at_ V main_v45 (ix3 b t e)) * -(Ideal.exp ((argsOf V).al e n))) := by
  after_reads_at
  rw [id_eq]
  pointwise
  rfl

/-- What a row adds to the state. -/
theorem v67_1_at (t : Fin 1024) (b : Fin 2) (e : Fin 2048) (n : Fin 16) :
    at_ (after hostOps0_6 V) main_v67_1 (ix4 t b e n)
      = num (at_ V main_v45 (ix3 b t e)) * num (at_ V main_v39 (ix3 b t n)) * num (at_ V main_v36 (ix3 b t e)) := by
  after_reads_at
  rw [id_eq]
  pointwise

/-- The output's weights. -/
theorem v67_2_at (t : Fin 1024) (b : Fin 2) (n : Fin 16) :
    at_ (after hostOps0_6 V) main_v67_2 (ix3 t b n) = at_ V main_v40 (ix3 b t n) := by
  after_reads_at
  rw [id_eq]
  pointwise

/-- The state before the first row. -/
theorem v67_4_at (b : Fin 2) (e : Fin 2048) (n : Fin 16) :
    at_ (after hostOps0_6 V) main_v67_4 (ix3 b e n) = (0 : EReal) := by
  after_reads_at
  rw [id_eq]
  pointwise

/-- A slice of one row of the laid-out table, read at an index. -/
theorem row4_at (x : FVec Ideal S1024x2x2048x16 .f32) (st : Fin 4 → Int) {k : ℕ} (hk : k < 1024)
    (h0 : st 0 = k) (h1 : st 1 = 0) (h2 : st 2 = 0) (h3 : st 3 = 0) (b : Fin 2) (e : Fin 2048) (n : Fin 16) :
    shapeCast S2x2048x16 (Host.dynamicSlice S1x2x2048x16 x st sliceFits_S1024x2x2048x16_S1x2x2048x16)
      shapeCasts_S1x2x2048x16_S2x2048x16 (ix3 b e n) = x (ix4 ⟨k, hk⟩ b e n) := by
  have c0 := Host.clampedStart_of_le (s := S1024x2x2048x16) (t := S1x2x2048x16) rfl st 0 k h0 (show k + 1 ≤ 1024 by omega)
  have c1 := Host.clampedStart_of_le (s := S1024x2x2048x16) (t := S1x2x2048x16) rfl st 1 0 h1 (show 0 + 2 ≤ 2 by omega)
  have c2 := Host.clampedStart_of_le (s := S1024x2x2048x16) (t := S1x2x2048x16) rfl st 2 0 h2 (show 0 + 2048 ≤ 2048 by omega)
  have c3 := Host.clampedStart_of_le (s := S1024x2x2048x16) (t := S1x2x2048x16) rfl st 3 0 h3 (show 0 + 16 ≤ 16 by omega)
  pointwise
  simp only [c0, c1, c2, c3, Nat.zero_add]

/-- The same of the table of the output's weights. -/
theorem row3_at (x : FVec Ideal S1024x2x16 .f32) (st : Fin 3 → Int) {k : ℕ} (hk : k < 1024)
    (h0 : st 0 = k) (h1 : st 1 = 0) (h2 : st 2 = 0) (b : Fin 2) (n : Fin 16) :
    shapeCast S2x16 (Host.dynamicSlice S1x2x16 x st sliceFits_S1024x2x16_S1x2x16)
      shapeCasts_S1x2x16_S2x16 (ix2 b n) = x (ix3 ⟨k, hk⟩ b n) := by
  have c0 := Host.clampedStart_of_le (s := S1024x2x16) (t := S1x2x16) rfl st 0 k h0 (show k + 1 ≤ 1024 by omega)
  have c1 := Host.clampedStart_of_le (s := S1024x2x16) (t := S1x2x16) rfl st 1 0 h1 (show 0 + 2 ≤ 2 by omega)
  have c2 := Host.clampedStart_of_le (s := S1024x2x16) (t := S1x2x16) rfl st 2 0 h2 (show 0 + 16 ≤ 16 by omega)
  pointwise
  simp only [c0, c1, c2, Nat.zero_add]

/-- Overwriting one row of the table of outputs. -/
theorem put3_at (x : FVec Ideal S1024x2x2048 .f32) (u : FVec Ideal S1x2x2048 .f32) (st : Fin 3 → Int) {k : ℕ} (hk : k < 1024)
    (h0 : st 0 = k) (h1 : st 1 = 0) (h2 : st 2 = 0) (t : Fin 1024) (b : Fin 2) (e : Fin 2048) :
    Host.dynamicUpdateSlice x u st updateFits_S1024x2x2048_S1x2x2048 (ix3 t b e)
      = if t.val = k then u (ix3 0 b e) else x (ix3 t b e) := by
  have c0 := Host.clampedStart_of_le (s := S1024x2x2048) (t := S1x2x2048) rfl st 0 k h0 (show k + 1 ≤ 1024 by omega)
  have c1 := Host.clampedStart_of_le (s := S1024x2x2048) (t := S1x2x2048) rfl st 1 0 h1 (show 0 + 2 ≤ 2 by omega)
  have c2 := Host.clampedStart_of_le (s := S1024x2x2048) (t := S1x2x2048) rfl st 2 0 h2 (show 0 + 2048 ≤ 2048 by omega)
  pointwise
  simp only [c0, c1, c2, Nat.sub_zero]
  by_cases h : t.val = k
  · rw [if_pos h, dif_pos (by simp; omega)]
    subst h
    simp only [Nat.sub_self]; rfl
  · rw [if_neg h, dif_neg (fun hh => h (by omega))]

/-- The contraction of the state with the output's weights, read at an index. -/
theorem dot_at (h : FVec Ideal S2x2048x16 .f32) (w : FVec Ideal S2x16 .f32) (b : Fin 2) (e : Fin 2048) :
    broadcastInDim S1x2x2048 ![1, 2] bcast_S2x2048_S1x2x2048_1_2
      (Host.dotGeneral dot_S2x2048x16_S2x16_S2x2048_2_1_1_n_0_0 none h w) (ix3 0 b e)
      = ∑ n : Fin 16, num (h (ix3 b e n)) * num (w (ix2 b n)) := by
  pointwise

/-- The counter of a trip, as a number. -/
theorem ctr_toInt {k : ℕ} (hk : k < 1024) : ((Scf.iv 0#32 1#32 k : BitVec 32).toInt) = (k : ℤ) := by
  rw [Scf.iv_eq_ofInt]
  simp
  have := Idealize.ShloMosaic.toInt_ofNat_of_lt (k := k) (by omega)
  simpa using this

section Trip

variable {k : ℕ} (hk : k < 1024) (hc : at_ V main_v67_3 = fun _ => Scf.iv 0#32 1#32 k)
include hc

/-- One trip's step of the state. -/
theorem state_at (b : Fin 2) (e : Fin 2048) (n : Fin 16) :
    res_main_while0b_v80 V (ix3 b e n)
      = num (at_ V main_v67_4 (ix3 b e n)) * num (at_ V main_v67_0 (ix4 ⟨k, hk⟩ b e n)) + num (at_ V main_v67_1 (ix4 ⟨k, hk⟩ b e n)) := by
  have h0 : BitVec.toInt (at_ V main_v67_3 (Shape.Idx.first h_S_)) = (k : ℤ) := by rw [hc]; exact ctr_toInt hk
  unfold res_main_while0b_v80
  exact congrArg₂ (· + ·) (congrArg (num _ * ·) (row4_at _ _ hk h0 rfl rfl rfl b e n)) (row4_at _ _ hk h0 rfl rfl rfl b e n)

/-- One trip writes its row of the outputs. -/
theorem output_at (t : Fin 1024) (b : Fin 2) (e : Fin 2048) :
    step_main_v67_5 V (ix3 t b e)
      = if t.val = k then (∑ n : Fin 16, num (res_main_while0b_v80 V (ix3 b e n)) * num (at_ V main_v67_2 (ix3 ⟨k, hk⟩ b n)))
        else at_ V main_v67_5 (ix3 t b e) := by
  have h0 : BitVec.toInt (at_ V main_v67_3 (Shape.Idx.first h_S_)) = (k : ℤ) := by rw [hc]; exact ctr_toInt hk
  unfold step_main_v67_5
  refine (put3_at _ _ _ hk h0 rfl rfl t b e).trans (if_congr Iff.rfl ?_ rfl)
  exact (dot_at _ _ b e).trans (Finset.sum_congr rfl fun n _ => congrArg (num _ * ·) (row3_at _ _ hk h0 rfl rfl b n))

end Trip

end Cert.ReferenceIdeal.AtIndex

end
-- ==== Proof.Reference.Values.lean ====
/-
  The reference's stretches before the loop, chained: what the loop's buffers hold when it is entered.
-/
module

public import proofs.«01_k».proof.Proof.Reference.Stretch

@[expose] public section

set_option maxRecDepth 16384

noncomputable section

namespace Cert.ReferenceIdeal.AtIndex

open Idealize.ShloMosaic Idealize.ShloMosaic.TcCoe Idealize.SL.Sem Idealize.ShloMosaic.StableHlo
open Cert.ReferenceIdeal Cert.ReferenceIdeal.Gen Cert.ReferenceIdeal.Value Cert.Mamba Cert.ReferenceIdeal.Ends

variable (V : Valuation τ sig (Elt Ideal))

/-- The contents after each stretch in turn. -/
def S1 : Valuation τ sig (Elt Ideal) := after hostOps0 V
def S2 : Valuation τ sig (Elt Ideal) := after hostOps0_1 (S1 V)
def S3 : Valuation τ sig (Elt Ideal) := after hostOps0_2 (S2 V)
def S4 : Valuation τ sig (Elt Ideal) := after hostOps0_3 (S3 V)
def S5 : Valuation τ sig (Elt Ideal) := after hostOps0_4 (S4 V)
def S6 : Valuation τ sig (Elt Ideal) := after hostOps0_5 (S5 V)
def S7 : Valuation τ sig (Elt Ideal) := after hostOps0_6 (S6 V)

/-- Two valuations that agree on the arguments hold the same arguments. -/
theorem argsOf_congr {V V' : Valuation τ sig (Elt Ideal)} (h : ∀ r ∈ argRefs, at_ V r = at_ V' r) : argsOf V = argsOf V' := by
  unfold argsOf
  rw [h main_arg0 (by decide), h main_arg1 (by decide), h main_arg2 (by decide), h main_arg3 (by decide), h main_arg4 (by decide),
    h main_arg5 (by decide), h main_arg6 (by decide), h main_arg7 (by decide), h main_arg8 (by decide), h main_arg9 (by decide)]

/-- What a stretch does not write it keeps. -/
theorem keep1 {r : Ref sig .tc} (h : r ∉ hostOps0_W) : at_ (S1 V) r = at_ V r := after_of_writes_sub hostOps0 _ hostOps0_writes h
theorem keep2 {r : Ref sig .tc} (h : r ∉ hostOps0_1_W) : at_ (S2 V) r = at_ (S1 V) r := after_of_writes_sub hostOps0_1 _ hostOps0_1_writes h
theorem keep3 {r : Ref sig .tc} (h : r ∉ hostOps0_2_W) : at_ (S3 V) r = at_ (S2 V) r := after_of_writes_sub hostOps0_2 _ hostOps0_2_writes h
theorem keep4 {r : Ref sig .tc} (h : r ∉ hostOps0_3_W) : at_ (S4 V) r = at_ (S3 V) r := after_of_writes_sub hostOps0_3 _ hostOps0_3_writes h
theorem keep5 {r : Ref sig .tc} (h : r ∉ hostOps0_4_W) : at_ (S5 V) r = at_ (S4 V) r := after_of_writes_sub hostOps0_4 _ hostOps0_4_writes h
theorem keep6 {r : Ref sig .tc} (h : r ∉ hostOps0_5_W) : at_ (S6 V) r = at_ (S5 V) r := after_of_writes_sub hostOps0_5 _ hostOps0_5_writes h
theorem keep7 {r : Ref sig .tc} (h : r ∉ hostOps0_6_W) : at_ (S7 V) r = at_ (S6 V) r := after_of_writes_sub hostOps0_6 _ hostOps0_6_writes h

theorem args1 : argsOf (S1 V) = argsOf V := argsOf_congr fun r hr => keep1 V (not_mem_of (l := argRefs) (by decide +kernel) hr)
theorem args2 : argsOf (S2 V) = argsOf V := (argsOf_congr fun r hr => keep2 V (not_mem_of (l := argRefs) (by decide +kernel) hr)).trans (args1 V)
theorem args3 : argsOf (S3 V) = argsOf V := (argsOf_congr fun r hr => keep3 V (not_mem_of (l := argRefs) (by decide +kernel) hr)).trans (args2 V)
theorem args4 : argsOf (S4 V) = argsOf V := (argsOf_congr fun r hr => keep4 V (not_mem_of (l := argRefs) (by decide +kernel) hr)).trans (args3 V)
theorem args5 : argsOf (S5 V) = argsOf V := (argsOf_congr fun r hr => keep5 V (not_mem_of (l := argRefs) (by decide +kernel) hr)).trans (args4 V)
theorem args6 : argsOf (S6 V) = argsOf V := (argsOf_congr fun r hr => keep6 V (not_mem_of (l := argRefs) (by decide +kernel) hr)).trans (args5 V)
theorem args7 : argsOf (S7 V) = argsOf V := (argsOf_congr fun r hr => keep7 V (not_mem_of (l := argRefs) (by decide +kernel) hr)).trans (args6 V)

/-- The padded rows: `3 + t - s` is `s` rows before row `t`. -/
theorem pad (s : ℕ) (hs : s ≤ 3) (b : Fin 2) (t : Fin 1024) (e : Fin 2048) (p : Fin 1027) (hp : p.val + s = 3 + t.val) :
    at_ (S2 V) main_v3 (ix3 b p e) = (argsOf V).back s b t e := by
  refine (v3_at (S1 V) (c_at V) b p e).trans ?_
  unfold Args.back
  by_cases h : s ≤ t.val
  · rw [dif_pos (by omega), if_pos h]
    refine (v1_at V b _ e).trans (congrArg (fun q => (argsOf V).proj b q _) (Fin.ext ?_))
    show p.val - 3 = t.val - s
    omega
  · rw [dif_neg (by omega), if_neg h]

theorem conv_eq (b : Fin 2) (t : Fin 1024) (e : Fin 2048) : at_ (S3 V) main_v35 (ix3 b t e) = (argsOf V).conv b t e := by
  refine (v35_at (S2 V) b t e).trans ?_
  rw [args2, pad V 3 (by omega) b t e _ (show t.val + 3 = 3 + t.val by omega),
    pad V 2 (by omega) b t e _ (show 1 + t.val + 2 = 3 + t.val by omega),
    pad V 1 (by omega) b t e _ (show 2 + t.val + 1 = 3 + t.val by omega),
    pad V 0 (by omega) b t e _ (show 3 + t.val + 0 = 3 + t.val by omega)]
  rfl

theorem xc_eq (b : Fin 2) (t : Fin 1024) (e : Fin 2048) : at_ (S4 V) main_v36 (ix3 b t e) = (argsOf V).xc b t e :=
  (v36_at (S3 V) b t e).trans (congrArg silu (conv_eq V b t e))

theorem bb_eq (b : Fin 2) (t : Fin 1024) (n : Fin 16) : at_ (S5 V) main_v39 (ix3 b t n) = (argsOf V).bb b t n := by
  refine (v39_at (S4 V) b t n).trans ?_
  rw [args4]
  exact Finset.sum_congr (M := EReal) rfl fun e _ => congrArg (fun x : EReal => x * _) (xc_eq V b t e)

theorem cc_eq (b : Fin 2) (t : Fin 1024) (n : Fin 16) : at_ (S5 V) main_v40 (ix3 b t n) = (argsOf V).cc b t n := by
  refine (v40_at (S4 V) b t n).trans ?_
  rw [args4]
  exact Finset.sum_congr (M := EReal) rfl fun e _ => congrArg (fun x : EReal => x * _) (xc_eq V b t e)

theorem dt_eq (b : Fin 2) (t : Fin 1024) (e : Fin 2048) : at_ (S6 V) main_v45 (ix3 b t e) = (argsOf V).dt b t e := by
  refine (v45_at (S5 V) b t e).trans ?_
  unfold Args.dt
  refine congrArg softplus ((v44_at (S4 V) b t e).trans ?_)
  rw [args4]
  exact congrArg (· + (argsOf V).db e) (Finset.sum_congr rfl fun r _ => congrArg (· * (argsOf V).dw e r)
    (Finset.sum_congr rfl fun e' _ => congrArg (· * _) (xc_eq V b t e')))

/-- Row `k` of a table, as a number below 1024. -/
theorem tm_of_lt (t : Fin 1024) : Args.tm t.val = t := Fin.ext (Nat.mod_eq_of_lt t.isLt)

/-- What the loop's tables hold. -/
theorem decay_eq (t : Fin 1024) (b : Fin 2) (e : Fin 2048) (n : Fin 16) :
    at_ (S7 V) main_v67_0 (ix4 t b e n) = (argsOf V).decay b e n t.val := by
  refine (v67_0_at (S6 V) t b e n).trans ?_
  rw [args6, dt_eq]
  unfold Args.decay
  rw [tm_of_lt]

theorem drive_eq (t : Fin 1024) (b : Fin 2) (e : Fin 2048) (n : Fin 16) :
    at_ (S7 V) main_v67_1 (ix4 t b e n) = (argsOf V).drive b e n t.val := by
  refine (v67_1_at (S6 V) t b e n).trans ?_
  rw [dt_eq, keep6 V (r := main_v39) (by decide), bb_eq, keep6 V (r := main_v36) (by decide), keep5 V (r := main_v36) (by decide), xc_eq]
  unfold Args.drive
  rw [tm_of_lt]

theorem weight_eq (t : Fin 1024) (b : Fin 2) (n : Fin 16) :
    at_ (S7 V) main_v67_2 (ix3 t b n) = (argsOf V).cc b t n := by
  refine (v67_2_at (S6 V) t b n).trans ?_
  rw [keep6 V (r := main_v40) (by decide), cc_eq]

/-- The two values that pass the loop by. -/
theorem gate_kept (b : Fin 2) (t : Fin 1024) (e : Fin 2048) :
    at_ (S7 V) main_v2 (ix3 b t e) = (argsOf V).proj b t ⟨2048 + e.val, by omega⟩ := by
  rw [keep7 V (r := main_v2) (by decide), keep6 V (r := main_v2) (by decide), keep5 V (r := main_v2) (by decide),
    keep4 V (r := main_v2) (by decide), keep3 V (r := main_v2) (by decide), keep2 V (r := main_v2) (by decide)]
  exact v2_at V b t e

theorem xc_kept (b : Fin 2) (t : Fin 1024) (e : Fin 2048) :
    at_ (S7 V) main_v36 (ix3 b t e) = (argsOf V).xc b t e := by
  rw [keep7 V (r := main_v36) (by decide), keep6 V (r := main_v36) (by decide), keep5 V (r := main_v36) (by decide)]
  exact xc_eq V b t e

/-! ## The loop -/

section Loop

variable (m : (ℓ : Loc nD τ sig) → Buf (Elt Ideal) ℓ) (c : Dev nD)

/-- The arguments launched with. -/
def args : Args := argsOf (launchContents m c)

theorem entry : entryContents preI m c = S7 (launchContents m c) := rfl

/-- The tables are the same before every trip. -/
theorem atK_table {r : Ref sig .tc} (hr : r ∈ carriedRefs)
    (hs : ∀ V, STEP (F := Ideal) V (Proc.devRef .tc r) = V (Proc.devRef .tc r)) :
    ∀ k, at_ (atK m k c) r = at_ (S7 (launchContents m c)) r
  | 0 => rfl
  | k + 1 => ((trip_agree (atK m k c)) r hr).trans ((hs _).trans (atK_table hr hs k))

/-- Before trip `k` the state is the recurrence's after `k` rows, and the first `k` rows of the outputs are written. -/
theorem atK_eq (k : ℕ) (hk : k ≤ 1024) :
    (∀ b e n, at_ (atK m k c) main_v67_4 (ix3 b e n) = (args m c).hs b e n k)
    ∧ (∀ (t : Fin 1024) b e, t.val < k → at_ (atK m k c) main_v67_5 (ix3 t b e) = (args m c).y b t e) := by
  induction k with
  | zero => exact ⟨fun b e n => v67_4_at (S6 (launchContents m c)) b e n, fun t b e h => absurd h (Nat.not_lt_zero _)⟩
  | succ k ih =>
    obtain ⟨ih4, ih5⟩ := ih (by omega)
    have hc : at_ (atK m k c) main_v67_3 = fun _ => Scf.iv 0#32 1#32 k := atK_ctr m c k
    have hst : ∀ b e n, res_main_while0b_v80 (atK m k c) (ix3 b e n) = (args m c).hs b e n (k + 1) := fun b e n => by
      refine (state_at (atK m k c) (by omega) hc b e n).trans ?_
      rw [ih4, atK_table m c (r := main_v67_0) (by decide) STEP_main_v67_0 k, atK_table m c (r := main_v67_1) (by decide) STEP_main_v67_1 k,
        decay_eq, drive_eq]
      rfl
    refine ⟨fun b e n => ?_, fun t b e ht => ?_⟩
    · refine (congrFun ((trip_agree (atK m k c)) main_v67_4 (by decide)) _).trans ?_
      rw [STEP_main_v67_4]
      exact hst b e n
    · refine (congrFun ((trip_agree (atK m k c)) main_v67_5 (by decide)) _).trans ?_
      rw [STEP_main_v67_5]
      refine (output_at (atK m k c) (by omega) hc t b e).trans ?_
      by_cases h : t.val = k
      · rw [if_pos h, atK_table m c (r := main_v67_2) (by decide) STEP_main_v67_2 k]
        subst h
        exact Finset.sum_congr (M := EReal) rfl fun n _ => congrArg₂ (fun x y : EReal => x * y) (hst b e n) (weight_eq _ _ b n)
      · rw [if_neg h]; exact ih5 t b e (by omega)

end Loop

/-! ## The stretches after the loop -/

theorem v72_at (b : Fin 2) (t : Fin 1024) (e : Fin 2048) :
    at_ (after hostOps0_7 V) main_v72 (ix3 b t e)
      = num (at_ V main_v67_5 (ix3 t b e)) + num (at_ V main_v36 (ix3 b t e)) * (argsOf V).dv e := by
  after_reads_at; rfl

theorem v73_at (b : Fin 2) (t : Fin 1024) (e : Fin 2048) :
    at_ (after hostOps0_8 V) main_v73 (ix3 b t e) = silu (at_ V main_v2 (ix3 b t e)) := by
  after_reads_at; rfl

theorem v75_at (b : Fin 2) (t d : Fin 1024) :
    num (at_ (after hostOps0_9 V) main_v75 (ix3 b t d))
      = ∑ e : Fin 2048, num (at_ V main_v72 (ix3 b t e)) * num (at_ V main_v73 (ix3 b t e)) * (argsOf V).wo d e := by
  after_reads_at; rfl

/-- The reference's result, at an index. -/
theorem result_at (m : (ℓ : Loc nD τ sig) → Buf (Elt Ideal) ℓ) (c : Dev nD) (b : Fin 2) (t d : Fin 1024) :
    result m c (ix3 b t d) = (args m c).out b t d := by
  unfold result
  rw [final_eq]
  generalize hT : atK m 1024 c = T
  have kept : ∀ {r : Ref sig .tc}, r ∈ keptRefs → at_ (after condOps T) r = at_ (S7 (launchContents m c)) r := fun {r} hr => by
    refine (after_of_writes_sub condOps _ condOps_writes (not_mem_of (l := keptRefs) (by decide +kernel) hr)).trans ?_
    rw [← hT]; exact atK_kept m c hr 1024
  have hy : ∀ (t : Fin 1024) b e, at_ (after condOps T) main_v67_5 (ix3 t b e) = (args m c).y b t e := fun t b e => by
    refine (congrFun (after_of_writes_sub condOps _ condOps_writes (r := main_v67_5) (by decide)) _).trans ?_
    rw [← hT]; exact (atK_eq m c 1024 le_rfl).2 t b e t.isLt
  generalize hU : after condOps T = U at kept hy
  have hargs : argsOf U = args m c :=
    (argsOf_congr fun r hr => kept (List.mem_cons_of_mem _ (List.mem_cons_of_mem _ hr))).trans (args7 _)
  have hargs7 : argsOf (after hostOps0_8 (after hostOps0_7 U)) = args m c := by
    rw [← hargs]
    exact argsOf_congr fun r hr => (after_of_writes_sub hostOps0_8 _ post8_writes (not_mem_of (l := argRefs) (by decide +kernel) hr)).trans
      (after_of_writes_sub hostOps0_7 _ post7_writes (not_mem_of (l := argRefs) (by decide +kernel) hr))
  refine (v75_at (after hostOps0_8 (after hostOps0_7 U)) b t d).trans ?_
  rw [hargs7]
  refine Finset.sum_congr rfl fun e _ => congrArg (· * (args m c).wo d e) ?_
  refine congrArg₂ (· * ·) ?_ ?_
  · refine (congrFun (after_of_writes_sub hostOps0_8 _ post8_writes (r := main_v72) (by decide)) _).trans ?_
    refine (v72_at U b t e).trans ?_
    rw [hy, hargs, kept (r := main_v36) (by decide), xc_kept]
    rfl
  · refine (v73_at (after hostOps0_7 U) b t e).trans (congrArg silu ?_)
    refine (congrFun (after_of_writes_sub hostOps0_7 _ post7_writes (r := main_v2) (by decide)) _).trans ?_
    refine (congrFun (kept (r := main_v2) (by decide)) _).trans ?_
    exact gate_kept _ b t e

end Cert.ReferenceIdeal.AtIndex

end
-- ==== Proof.Value.Equation.lean ====
/-
  The two programs, run from memories with the same arguments, end with the same result.
-/
module

public import proofs.«01_k».proof.Defs
public import proofs.«01_k».proof.Proof.Value.Array1
public import proofs.«01_k».proof.Proof.Reference.Values
public import Idealize.ShloMosaic.Lib.Claim

@[expose] public section

set_option maxRecDepth 16384

noncomputable section

namespace Cert.Mamba

open Idealize.ShloMosaic Idealize.ShloMosaic.TcCoe Idealize.SL.Sem

/-- The kernel's result array, from the memory it is launched on. -/
abbrev kernelResult (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v6) :=
  Cert.KernelIdeal.AtIndex.outArr m c

/-- Over the extended reals the kernel and the reference compute the same result, at every entry, whatever the arguments. -/
theorem algebraic [Cert.KernelIdeal.Facts] [Cert.ReferenceIdeal.Facts] : Cert.algebraic_KernelIdeal_ReferenceIdeal := by
  intro m g m' g' _ hargs
  refine ⟨kernelResult m, ?_, ?_⟩
  · refine (θ_run _ _ _).mono (fun r h c => ⟨(h.1 c).trans (Cert.KernelIdeal.AtIndex.arrOut m g c), h.2.1 c⟩)
      (θ_run_and (Cert.KernelIdeal.Run.result (F := Ideal) m g) (Cert.KernelIdeal.Run.frame (F := Ideal) m g))
  · refine (θ_run _ _ _).mono (fun r h c => ⟨(h c).1.trans (funext fun i => ?_), (h c).2⟩) (Cert.ReferenceIdeal.Ends.run (F := Ideal) m' g')
    obtain ⟨a0, a1, a2, a3, a4, a5, a6, a7, a8, a9⟩ := hargs c
    have e : Cert.ReferenceIdeal.AtIndex.args m' c = Cert.KernelIdeal.AtIndex.args m c := by
      show Args.mk (fun b t d => m' ((c.tc : Thread Cert.ReferenceIdeal.nD Cert.ReferenceIdeal.τ).loc Cert.ReferenceIdeal.main_arg0) (ix3 b t d))
        (fun f d => m' ((c.tc : Thread Cert.ReferenceIdeal.nD Cert.ReferenceIdeal.τ).loc Cert.ReferenceIdeal.main_arg1) (ix2 f d))
        (fun e k => m' ((c.tc : Thread Cert.ReferenceIdeal.nD Cert.ReferenceIdeal.τ).loc Cert.ReferenceIdeal.main_arg2) (ix2 e k))
        (fun e => m' ((c.tc : Thread Cert.ReferenceIdeal.nD Cert.ReferenceIdeal.τ).loc Cert.ReferenceIdeal.main_arg3) (ix1 e))
        (fun r e => m' ((c.tc : Thread Cert.ReferenceIdeal.nD Cert.ReferenceIdeal.τ).loc Cert.ReferenceIdeal.main_arg4) (ix2 r e))
        (fun e r => m' ((c.tc : Thread Cert.ReferenceIdeal.nD Cert.ReferenceIdeal.τ).loc Cert.ReferenceIdeal.main_arg5) (ix2 e r))
        (fun e => m' ((c.tc : Thread Cert.ReferenceIdeal.nD Cert.ReferenceIdeal.τ).loc Cert.ReferenceIdeal.main_arg6) (ix1 e))
        (fun e n => m' ((c.tc : Thread Cert.ReferenceIdeal.nD Cert.ReferenceIdeal.τ).loc Cert.ReferenceIdeal.main_arg7) (ix2 e n))
        (fun e => m' ((c.tc : Thread Cert.ReferenceIdeal.nD Cert.ReferenceIdeal.τ).loc Cert.ReferenceIdeal.main_arg8) (ix1 e))
        (fun d e => m' ((c.tc : Thread Cert.ReferenceIdeal.nD Cert.ReferenceIdeal.τ).loc Cert.ReferenceIdeal.main_arg9) (ix2 d e)) = _
      rw [a0, a1, a2, a3, a4, a5, a6, a7, a8, a9]
      rfl
    idx_vars i
    refine (Cert.ReferenceIdeal.AtIndex.result_at m' c i0 i1 i2).trans ?_
    rw [e]
    rfl

end Cert.Mamba

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Reference.Frame
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The kernel as compiled ends with its arguments unchanged and its counters at zero. -/
theorem frame_kernel [Cert.Kernel.Facts] : Cert.quiescent_Kernel := fun m g _ => Cert.Kernel.Run.frame m g

/-- So does the kernel with its constant named. -/
theorem frame_kernelIdeal [Cert.KernelIdeal.Facts] : Cert.quiescent_KernelIdeal := fun m g _ => Cert.KernelIdeal.Run.frame m g

/-- The one constant named, `log2e`, is read as `1 / ln 2`. -/
theorem preserved [Cert.Kernel.Facts] [Cert.KernelIdeal.Facts] : Cert.preserves_Kernel_KernelIdeal :=
  IdealRules.named_const.statement Cert.KernelIdeal.κ "log2e" .f32 0x3FB8AA3B#32 _ rfl

/-- The claims. -/
theorem claim : Cert.Claim :=
  ⟨Cert.Kernel.Gen.facts, Cert.KernelIdeal.Gen.facts, Cert.ReferenceIdeal.Gen.facts,
    frame_kernel, frame_kernelIdeal, Cert.ReferenceIdeal.Ends.frame, preserved, Cert.Mamba.algebraic⟩

end Cert.Proof

end
